-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S131072x768 : Shape := ⟨2, ![131072, 768]⟩
abbrev S256x768 : Shape := ⟨2, ![256, 768]⟩
abbrev S256 : Shape := ⟨1, ![256]⟩
abbrev S64x256 : Shape := ⟨2, ![64, 256]⟩
abbrev S64 : Shape := ⟨1, ![64]⟩
abbrev S64x768 : Shape := ⟨2, ![64, 768]⟩
abbrev S64x64 : Shape := ⟨2, ![64, 64]⟩
abbrev S1 : Shape := ⟨1, ![1]⟩
abbrev S_ : Shape := ⟨0, ![]⟩

class Facts : Prop where
  bcast_S_S131072x768 : S_.BroadcastsInDim S131072x768 (![] : Fin 0 → Fin S131072x768.rank)
  reducesTo_S131072x768_S_d0_1 : S131072x768.ReducesTo [0, 1] S_
  h_S_ : 0 < S_.numel
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S64x768 : S_.BroadcastsInDim S64x768 (![] : Fin 0 → Fin S64x768.rank)
  reducesTo_S64x768_S_d0_1 : S64x768.ReducesTo [0, 1] S_
  bcast_S_S64x64 : S_.BroadcastsInDim S64x64 (![] : Fin 0 → Fin S64x64.rank)
  reducesTo_S64x64_S_d0_1 : S64x64.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S64 .f32) (main_arg12 : FVec F S64x64 .f32) (main_arg13 : FVec F S64 .f32) (main_arg14 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_v63 main_v67

def fn_part2 {F : FTy → Type} [FloatOps F] (main_arg7 : FVec F S64x768 .f32) (main_arg8 : FVec F S64 .f32) (main_arg9 : FVec F S64x64 .f32) (main_arg10 : FVec F S64x64 .f32) (main_arg11 : FVec F S64 .f32) (main_arg12 : FVec F S64x64 .f32) (main_arg13 : FVec F S64 .f32) (main_arg14 : FVec F S1 .f32) (main_v33 : IVec S_ 1) : IVec S_ 1 :=
  let main_v34 : FVec F S64x768 .f32 := Host.absf main_arg7
  let main_cst_12 : FVec F S_ .f32 := constant S_ .f32 0x7F800000#32
  let main_v35 : FVec F S64x768 .f32 := broadcastInDim S64x768 ![] bcast_S_S64x768 main_cst_12
  let main_v36 : IVec S64x768 1 := cmpf .olt main_v34 main_v35
  let main_c_13 : IVec S_ 1 := constantI S_ 1 1#1
  let main_v37 : IVec S_ 1 := (fun x v => Host.reduce IntOp.andi x v reducesTo_S64x768_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_arg14 main_v48 main_v49 main_v50

def fn_part1 {F : FTy → Type} [FloatOps F] (main_arg4 : FVec F S256 .f32) (main_arg5 : FVec F S64x256 .f32) (main_arg6 : FVec F S64 .f32) (main_arg7 : FVec F S64x768 .f32) (main_arg8 : FVec F S64 .f32) (main_arg9 : FVec F S64x64 .f32) (main_arg10 : FVec F S64x64 .f32) (main_arg11 : FVec F S64 .f32) (main_arg12 : FVec F S64x64 .f32) (main_arg13 : FVec F S64 .f32) (main_arg14 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S64x256 .f32 := Host.absf main_arg5
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S131072x768 .f32) (main_arg1 : FVec F S256x768 .f32) (main_arg2 : FVec F S256 .f32) (main_arg3 : FVec F S256 .f32) (main_arg4 : FVec F S256 .f32) (main_arg5 : FVec F S64x256 .f32) (main_arg6 : FVec F S64 .f32) (main_arg7 : FVec F S64x768 .f32) (main_arg8 : FVec F S64 .f32) (main_arg9 : FVec F S64x64 .f32) (main_arg10 : FVec F S64x64 .f32) (main_arg11 : FVec F S64 .f32) (main_arg12 : FVec F S64x64 .f32) (main_arg13 : FVec F S64 .f32) (main_arg14 : FVec F S1 .f32) : IVec S_ 1 :=
  let main_v0 : FVec F S131072x768 .f32 := Host.absf main_arg0
  let main_cst : FVec F S_ .f32 := constant S_ .f32 0x7F800000#32
  let main_v1 : FVec F S131072x768 .f32 := broadcastInDim S131072x768 ![] bcast_S_S131072x768 main_cst
  let main_v2 : IVec S131072x768 1 := cmpf .olt main_v0 main_v1
  let main_c : IVec S_ 1 := constantI S_ 1 1#1
  let main_v3 : IVec S_ 1 := (fun x v => Host.reduce IntOp.andi x v reducesTo_S131072x768_S_d0_1 h_S_) main_v2 main_c
  let main_v4 : FVec F S256x768 .f32 := Host.absf main_arg1
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S131072x768 : Shape := ⟨2, ![131072, 768]⟩
abbrev S256x768 : Shape := ⟨2, ![256, 768]⟩
abbrev S256 : Shape := ⟨1, ![256]⟩
abbrev S64x256 : Shape := ⟨2, ![64, 256]⟩
abbrev S64 : Shape := ⟨1, ![64]⟩
abbrev S64x768 : Shape := ⟨2, ![64, 768]⟩
abbrev S64x64 : Shape := ⟨2, ![64, 64]⟩
abbrev S1 : Shape := ⟨1, ![1]⟩
abbrev S1x256 : Shape := ⟨2, ![1, 256]⟩
abbrev S1x64 : Shape := ⟨2, ![1, 64]⟩
abbrev S1x1 : Shape := ⟨2, ![1, 1]⟩
abbrev S64x131072 : Shape := ⟨2, ![64, 131072]⟩
abbrev S2048x768 : Shape := ⟨2, ![2048, 768]⟩
abbrev S64x4096 : Shape := ⟨2, ![64, 4096]⟩
abbrev S65536x128 : Shape := ⟨2, ![65536, 128]⟩
abbrev S8x64 : Shape := ⟨2, ![8, 64]⟩
abbrev S128x256 : Shape := ⟨2, ![128, 256]⟩
abbrev S256x8 : Shape := ⟨2, ![256, 8]⟩
abbrev S2048x256 : Shape := ⟨2, ![2048, 256]⟩
abbrev S2048 : Shape := ⟨1, ![2048]⟩
abbrev S2048x1 : Shape := ⟨2, ![2048, 1]⟩
abbrev S2048x64 : Shape := ⟨2, ![2048, 64]⟩
abbrev S1x64x64 : Shape := ⟨3, ![1, 64, 64]⟩
abbrev S1x1x1 : Shape := ⟨3, ![1, 1, 1]⟩
abbrev S64x128 : Shape := ⟨2, ![64, 128]⟩
abbrev S256x1 : Shape := ⟨2, ![256, 1]⟩
abbrev S2048x128 : Shape := ⟨2, ![2048, 128]⟩
abbrev S256x2048 : Shape := ⟨2, ![256, 2048]⟩
abbrev S64x2048 : Shape := ⟨2, ![64, 2048]⟩
abbrev S131072x64 : Shape := ⟨2, ![131072, 64]⟩

abbrev nBuf : Space → Nat
  | .hbm => 25
  | .vmem => 28
  | .smem => 0
  | _ => 0

abbrev bufTy : (tb : Table) → Fin (tcTables nBuf tb) → BufTy
  | .hbm, ⟨0, _⟩ => ⟨S131072x768, .f32⟩
  | .hbm, ⟨1, _⟩ => ⟨S256x768, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S64x256, .f32⟩
  | .hbm, ⟨6, _⟩ => ⟨S64, .f32⟩
  | .hbm, ⟨7, _⟩ => ⟨S64x768, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S1, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x1, .f32⟩
  | .hbm, ⟨23, _⟩ => ⟨S64x131072, .f32⟩
  | .hbm, ⟨24, _⟩ => ⟨S131072x64, .f32⟩
  | .local _ .vmem, ⟨0, _⟩ => ⟨S2048x768, .f32⟩
  | .local _ .vmem, ⟨1, _⟩ => ⟨S2048x768, .f32⟩
  | .local _ .vmem, ⟨2, _⟩ => ⟨S2048x768, .f32⟩
  | .local _ .vmem, ⟨3, _⟩ => ⟨S2048x768, .f32⟩
  | .local _ .vmem, ⟨4, _⟩ => ⟨S256x768, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S64x256, .f32⟩
  | .local _ .vmem, ⟨9, _⟩ => ⟨S1x64, .f32⟩
  | .local _ .vmem, ⟨10, _⟩ => ⟨S64x768, .f32⟩
  | .local _ .vmem, ⟨11, _⟩ => ⟨S1x64, .f32⟩
  | .local _ .vmem, ⟨12, _⟩ => ⟨S64x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S1x64, .f32⟩
  | .local _ .vmem, ⟨17, _⟩ => ⟨S1x1, .f32⟩
  | .local _ .vmem, ⟨18, _⟩ => ⟨S64x4096, .f32⟩
  | .local _ .vmem, ⟨19, _⟩ => ⟨S64x4096, .f32⟩
  | .local _ .vmem, ⟨20, _⟩ => ⟨S65536x128, .bf16⟩
  | .local _ .vmem, ⟨21, _⟩ => ⟨S8x64, .f32⟩
  | .local _ .vmem, ⟨22, _⟩ => ⟨S64x64, .f32⟩
  | .local _ .vmem, ⟨23, _⟩ => ⟨S128x256, .bf16⟩
  | .local _ .vmem, ⟨24, _⟩ => ⟨S256x8, .f32⟩
  | .local _ .vmem, ⟨25, _⟩ => ⟨S64x256, .f32⟩
  | .local _ .vmem, ⟨26, _⟩ => ⟨S64x768, .f32⟩
  | .local _ .vmem, ⟨27, _⟩ => ⟨S1x64, .f32⟩
  | _, _ => ⟨S131072x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c2048_i32 : BitVec 32 := 2048#32
  let v60 : BitVec 32 := Scalar.muli arg0 c2048_i32
  let v61 : Index := Scalar.indexCast v60
  let c0_31 : Index := 0#32
  ![v61.toNat, 0]
def k0_off2 (i : grid0.Coords) : Fin 2 → Nat :=
  let arg0 : BitVec 32 := BitVec.ofNat 32 (i 0).val
  let c2048_i32_59 : BitVec 32 := 2048#32
  let v113 : BitVec 32 := Scalar.muli arg0 c2048_i32_59
  let v114 : Index := Scalar.indexCast v113
  let c64 : Index := 64#32
  ![v114.toNat, 64]
def k0_cond4 (i : grid0.Coords) : BitVec 1 :=
  let arg0 : BitVec 32 := BitVec.ofNat 32 (i 0).val
  let c32_i32_4 : BitVec 32 := 32#32
  let v9 : BitVec 1 := Scalar.cmpi .sge arg0 c32_i32_4
  let v10 : BitVec 32 := Scalar.extui v9
  let c0_i32_5 : BitVec 32 := 0#32
  let v11 : BitVec 1 := Scalar.cmpi .ne v10 c0_i32_5
  v11

def k0_off3 (i : grid0.Coords) : Fin 2 → Nat :=
  let arg0 : BitVec 32 := BitVec.ofNat 32 (i 0).val
  let c32_i32_6 : BitVec 32 := 32#32
  let v12 : BitVec 32 := Scalar.subi arg0 c32_i32_6
  let c2048_i32 : BitVec 32 := 2048#32
  let v13 : BitVec 32 := Scalar.muli v12 c2048_i32
  let v14 : Index := Scalar.indexCast v13
  let c0 : Index := 0#32
  ![v14.toNat, 0]
def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.muli c2_i32 v0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.muli c2_i32 v0
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S64x4096 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S131072x768 : Shape := ⟨2, ![131072, 768]⟩
abbrev S256x768 : Shape := ⟨2, ![256, 768]⟩
abbrev S256 : Shape := ⟨1, ![256]⟩
abbrev S64x256 : Shape := ⟨2, ![64, 256]⟩
abbrev S64 : Shape := ⟨1, ![64]⟩
abbrev S64x768 : Shape := ⟨2, ![64, 768]⟩
abbrev S64x64 : Shape := ⟨2, ![64, 64]⟩
abbrev S1 : Shape := ⟨1, ![1]⟩
abbrev S768x256 : Shape := ⟨2, ![768, 256]⟩
abbrev S131072x256 : Shape := ⟨2, ![131072, 256]⟩
abbrev S1x256 : Shape := ⟨2, ![1, 256]⟩
abbrev S_ : Shape := ⟨0, ![]⟩
abbrev S131072 : Shape := ⟨1, ![131072]⟩
abbrev S131072x1 : Shape := ⟨2, ![131072, 1]⟩
abbrev S256x64 : Shape := ⟨2, ![256, 64]⟩
abbrev S131072x64 : Shape := ⟨2, ![131072, 64]⟩
abbrev S1x64 : Shape := ⟨2, ![1, 64]⟩
abbrev S768x64 : Shape := ⟨2, ![768, 64]⟩
abbrev S64x131072 : Shape := ⟨2, ![64, 131072]⟩
abbrev S1x1 : Shape := ⟨2, ![1, 1]⟩

abbrev nBuf : Space → Nat
  | .hbm => 216
  | .vmem => 0
  | .smem => 0
  | _ => 0

abbrev hbmTy0_0 (i : Nat) : BufTy := match i % 128 with
  | 0 => ⟨S131072x768, .f32⟩
  | 1 => ⟨S256x768, .f32⟩
  | 2 => ⟨S256, .f32⟩
  | 3 => ⟨S256, .f32⟩
  | 4 => ⟨S256, .f32⟩
  | 5 => ⟨S64x256, .f32⟩
  | 6 => ⟨S64, .f32⟩
  | 7 => ⟨S64x768, .f32⟩
  | 8 => ⟨S64, .f32⟩
  | 9 => ⟨S64x64, .f32⟩
  | 10 => ⟨S64x64, .f32⟩
  | 11 => ⟨S64, .f32⟩
  | 12 => ⟨S64x64, .f32⟩
  | 13 => ⟨S64, .f32⟩
  | 14 => ⟨S1, .f32⟩
  | 15 => ⟨S768x256, .f32⟩
  | 16 => ⟨S131072x256, .f32⟩
  | 17 => ⟨S1x256, .f32⟩
  | 18 => ⟨S131072x256, .f32⟩
  | 19 => ⟨S131072x256, .f32⟩
  | 20 => ⟨S_, .f32⟩
  | 21 => ⟨S131072, .f32⟩
  | 22 => ⟨S131072x1, .f32⟩
  | 23 => ⟨S_, .f32⟩
  | 24 => ⟨S131072x1, .f32⟩
  | 25 => ⟨S131072x1, .f32⟩
  | 26 => ⟨S_, .i32⟩
  | 27 => ⟨S_, .f32⟩
  | 28 => ⟨S131072, .f32⟩
  | 29 => ⟨S131072x1, .f32⟩
  | 30 => ⟨S_, .f32⟩
  | 31 => ⟨S131072x1, .f32⟩
  | 32 => ⟨S131072x1, .f32⟩
  | 33 => ⟨S131072x256, .f32⟩
  | 34 => ⟨S131072x256, .f32⟩
  | 35 => ⟨S131072x256, .f32⟩
  | 36 => ⟨S_, .f32⟩
  | 37 => ⟨S_, .f32⟩
  | 38 => ⟨S_, .f32⟩
  | 39 => ⟨S_, .f32⟩
  | 40 => ⟨S131072, .f32⟩
  | 41 => ⟨S131072x1, .f32⟩
  | 42 => ⟨S131072x1, .f32⟩
  | 43 => ⟨S131072x1, .f32⟩
  | 44 => ⟨S_, .f32⟩
  | 45 => ⟨S_, .i1⟩
  | 46 => ⟨S_, .f32⟩
  | 47 => ⟨S_, .f32⟩
  | 48 => ⟨S131072x1, .f32⟩
  | 49 => ⟨S131072x1, .f32⟩
  | 50 => ⟨S131072x256, .f32⟩
  | 51 => ⟨S131072x256, .f32⟩
  | 52 => ⟨S_, .f32⟩
  | 53 => ⟨S131072x1, .f32⟩
  | 54 => ⟨S131072x1, .f32⟩
  | 55 => ⟨S131072x1, .f32⟩
  | 56 => ⟨S131072x256, .f32⟩
  | 57 => ⟨S131072x256, .f32⟩
  | 58 => ⟨S1x256, .f32⟩
  | 59 => ⟨S131072x256, .f32⟩
  | 60 => ⟨S131072x256, .f32⟩
  | 61 => ⟨S1x256, .f32⟩
  | 62 => ⟨S131072x256, .f32⟩
  | 63 => ⟨S131072x256, .f32⟩
  | 64 => ⟨S_, .f32⟩
  | 65 => ⟨S131072x256, .f32⟩
  | 66 => ⟨S131072x256, .f32⟩
  | 67 => ⟨S131072x256, .f32⟩
  | 68 => ⟨S_, .f32⟩
  | 69 => ⟨S131072x256, .f32⟩
  | 70 => ⟨S131072x256, .f32⟩
  | 71 => ⟨S131072x256, .f32⟩
  | 72 => ⟨S131072x256, .f32⟩
  | 73 => ⟨S256x64, .f32⟩
  | 74 => ⟨S131072x64, .f32⟩
  | 75 => ⟨S1x64, .f32⟩
  | 76 => ⟨S131072x64, .f32⟩
  | 77 => ⟨S131072x64, .f32⟩
  | 78 => ⟨S768x64, .f32⟩
  | 79 => ⟨S131072x64, .f32⟩
  | 80 => ⟨S1x64, .f32⟩
  | 81 => ⟨S131072x64, .f32⟩
  | 82 => ⟨S131072x64, .f32⟩
  | 83 => ⟨S131072x64, .f32⟩
  | 84 => ⟨S64x64, .f32⟩
  | 85 => ⟨S131072x64, .f32⟩
  | 86 => ⟨S_, .f32⟩
  | 87 => ⟨S64, .f32⟩
  | 88 => ⟨S1x64, .f32⟩
  | 89 => ⟨S_, .f32⟩
  | 90 => ⟨S1x64, .f32⟩
  | 91 => ⟨S1x64, .f32⟩
  | 92 => ⟨S131072x64, .f32⟩
  | 93 => ⟨S131072x64, .f32⟩
  | 94 => ⟨S64x131072, .f32⟩
  | 95 => ⟨S64x64, .f32⟩
  | 96 => ⟨S_, .f32⟩
  | 97 => ⟨S64x64, .f32⟩
  | 98 => ⟨S64x64, .f32⟩
  | 99 => ⟨S64x64, .i32⟩
  | 100 => ⟨S64x64, .i32⟩
  | 101 => ⟨S_, .i32⟩
  | 102 => ⟨S64x64, .i32⟩
  | 103 => ⟨S64x64, .i32⟩
  | 104 => ⟨S64x64, .i1⟩
  | 105 => ⟨S64x64, .f32⟩
  | 106 => ⟨S_, .f32⟩
  | 107 => ⟨S64x64, .f32⟩
  | 108 => ⟨S64x64, .f32⟩
  | 109 => ⟨S64x64, .f32⟩
  | 110 => ⟨S64x64, .i32⟩
  | 111 => ⟨S64x64, .i32⟩
  | 112 => ⟨S_, .i32⟩
  | 113 => ⟨S64x64, .i32⟩
  | 114 => ⟨S64x64, .i32⟩
  | 115 => ⟨S64x64, .i1⟩
  | 116 => ⟨S_, .f32⟩
  | 117 => ⟨S64x64, .f32⟩
  | 118 => ⟨S64x64, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S64x64, .f32⟩
  | 126 => ⟨S64x64, .f32⟩
  | 127 => ⟨S64x64, .i32⟩
  | _ => ⟨S131072x768, .f32⟩

abbrev hbmTy0_1 (i : Nat) : BufTy := match i % 128 with
  | 0 => ⟨S64x64, .i32⟩
  | 1 => ⟨S_, .i32⟩
  | 2 => ⟨S64x64, .i32⟩
  | 3 => ⟨S64x64, .i32⟩
  | 4 => ⟨S64x64, .i1⟩
  | 5 => ⟨S64x64, .f32⟩
  | 6 => ⟨S64x64, .f32⟩
  | 7 => ⟨S64x64, .f32⟩
  | 8 => ⟨S64x64, .f32⟩
  | 9 => ⟨S_, .f32⟩
  | 10 => ⟨S64x64, .f32⟩
  | 11 => ⟨S64x64, .f32⟩
  | 12 => ⟨S_, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S_, .f32⟩
  | 21 => ⟨S64x64, .f32⟩
  | 22 => ⟨S64x64, .f32⟩
  | 23 => ⟨S_, .f32⟩
  | 24 => ⟨S64x64, .f32⟩
  | 25 => ⟨S64x64, .f32⟩
  | 26 => ⟨S64x64, .f32⟩
  | 27 => ⟨S64x64, .f32⟩
  | 28 => ⟨S64x64, .f32⟩
  | 29 => ⟨S64x64, .f32⟩
  | 30 => ⟨S64x64, .f32⟩
  | 31 => ⟨S_, .f32⟩
  | 32 => ⟨S64x64, .f32⟩
  | 33 => ⟨S64x64, .f32⟩
  | 34 => ⟨S_, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S64x64, .f32⟩
  | 42 => ⟨S_, .f32⟩
  | 43 => ⟨S64x64, .f32⟩
  | 44 => ⟨S64x64, .f32⟩
  | 45 => ⟨S_, .f32⟩
  | 46 => ⟨S64x64, .f32⟩
  | 47 => ⟨S64x64, .f32⟩
  | 48 => ⟨S64x64, .f32⟩
  | 49 => ⟨S64x64, .f32⟩
  | 50 => ⟨S64x64, .f32⟩
  | 51 => ⟨S64x64, .f32⟩
  | 52 => ⟨S64x64, .f32⟩
  | 53 => ⟨S_, .f32⟩
  | 54 => ⟨S64x64, .f32⟩
  | 55 => ⟨S64x64, .f32⟩
  | 56 => ⟨S_, .f32⟩
  | 57 => ⟨S64x64, .f32⟩
  | 58 => ⟨S64x64, .f32⟩
  | 59 => ⟨S64x64, .f32⟩
  | 60 => ⟨S64x64, .f32⟩
  | 61 => ⟨S_, .f32⟩
  | 62 => ⟨S131072x64, .f32⟩
  | 63 => ⟨S131072x64, .f32⟩
  | 64 => ⟨S64x64, .f32⟩
  | 65 => ⟨S131072x64, .f32⟩
  | 66 => ⟨S64x64, .f32⟩
  | 67 => ⟨S131072x64, .f32⟩
  | 68 => ⟨S1x64, .f32⟩
  | 69 => ⟨S131072x64, .f32⟩
  | 70 => ⟨S131072x64, .f32⟩
  | 71 => ⟨S64x64, .f32⟩
  | 72 => ⟨S131072x64, .f32⟩
  | 73 => ⟨S1x64, .f32⟩
  | 74 => ⟨S131072x64, .f32⟩
  | 75 => ⟨S131072x64, .f32⟩
  | 76 => ⟨S131072x64, .f32⟩
  | 77 => ⟨S131072x64, .f32⟩
  | 78 => ⟨S_, .f32⟩
  | 79 => ⟨S131072x64, .f32⟩
  | 80 => ⟨S131072x64, .f32⟩
  | 81 => ⟨S_, .f32⟩
  | 82 => ⟨S131072x64, .f32⟩
  | 83 => ⟨S131072x64, .f32⟩
  | 84 => ⟨S131072x64, .f32⟩
  | 85 => ⟨S1x1, .f32⟩
  | 86 => ⟨S131072x64, .f32⟩
  | 87 => ⟨S131072x64, .f32⟩
  | _ => ⟨S131072x768, .f32⟩

abbrev hbmTy (i : Nat) : BufTy := match i / 128 with
  | 0 => hbmTy0_0 i
  | 1 => hbmTy0_1 i
  | _ => ⟨S131072x768, .f32⟩

abbrev bufTy : (tb : Table) → Fin (tcTables nBuf tb) → BufTy
  | .hbm, ⟨i, _⟩ => hbmTy i
  | _, _ => ⟨S131072x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_cst_3 : Ref sig .tc := ⟨.hbm, 44, rfl⟩
abbrev main_call0_v13 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_cst_1 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_cst_2 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_cst_3 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_cst_4 : Ref sig .tc := ⟨.hbm, 86, rfl⟩
abbrev main_v43 : Ref sig .tc := ⟨.hbm, 87, rfl⟩
abbrev main_v44 : Ref sig .tc := ⟨.hbm, 88, rfl⟩
abbrev main_cst_5 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_cst_6 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_c_7 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_8 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_call1_v0 : Ref sig .tc := ⟨.hbm, 110, rfl⟩
abbrev main_call1_v1 : Ref sig .tc := ⟨.hbm, 111, rfl⟩
abbrev main_call1_c : Ref sig .tc := ⟨.hbm, 112, rfl⟩
abbrev main_call1_v2 : Ref sig .tc := ⟨.hbm, 113, rfl⟩
abbrev main_call1_v3 : Ref sig .tc := ⟨.hbm, 114, rfl⟩
abbrev main_call1_v4 : Ref sig .tc := ⟨.hbm, 115, rfl⟩
abbrev main_call1_cst : Ref sig .tc := ⟨.hbm, 116, rfl⟩
abbrev main_call1_v5 : Ref sig .tc := ⟨.hbm, 117, rfl⟩
abbrev main_call1_v6 : Ref sig .tc := ⟨.hbm, 118, rfl⟩
abbrev main_call1_cst_0 : Ref sig .tc := ⟨.hbm, 119, rfl⟩
abbrev main_v62 : Ref sig .tc := ⟨.hbm, 120, rfl⟩
abbrev main_cst_9 : Ref sig .tc := ⟨.hbm, 121, rfl⟩
abbrev main_v63 : Ref sig .tc := ⟨.hbm, 122, rfl⟩
abbrev main_cst_10 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_c_11 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_cst_12 : Ref sig .tc := ⟨.hbm, 137, rfl⟩
abbrev main_v76 : Ref sig .tc := ⟨.hbm, 138, rfl⟩
abbrev main_v77 : Ref sig .tc := ⟨.hbm, 139, rfl⟩
abbrev main_cst_13 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_cst_14 : Ref sig .tc := ⟨.hbm, 148, rfl⟩
abbrev main_v85 : Ref sig .tc := ⟨.hbm, 149, rfl⟩
abbrev main_v86 : Ref sig .tc := ⟨.hbm, 150, rfl⟩
abbrev main_cst_15 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_cst_16 : Ref sig .tc := ⟨.hbm, 159, rfl⟩
abbrev main_v94 : Ref sig .tc := ⟨.hbm, 160, rfl⟩
abbrev main_v95 : Ref sig .tc := ⟨.hbm, 161, rfl⟩
abbrev main_cst_17 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_cst_18 : Ref sig .tc := ⟨.hbm, 170, rfl⟩
abbrev main_v103 : Ref sig .tc := ⟨.hbm, 171, rfl⟩
abbrev main_v104 : Ref sig .tc := ⟨.hbm, 172, rfl⟩
abbrev main_cst_19 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_cst_20 : Ref sig .tc := ⟨.hbm, 181, rfl⟩
abbrev main_v112 : Ref sig .tc := ⟨.hbm, 182, rfl⟩
abbrev main_v113 : Ref sig .tc := ⟨.hbm, 183, rfl⟩
abbrev main_cst_21 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_cst_22 : Ref sig .tc := ⟨.hbm, 206, rfl⟩
abbrev main_v135 : Ref sig .tc := ⟨.hbm, 207, rfl⟩
abbrev main_v136 : Ref sig .tc := ⟨.hbm, 208, rfl⟩
abbrev main_cst_23 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩

abbrev nD : Nat := 1
abbrev τ : Topo := Topo.v7x

variable {F : FTy → Type} [FloatOps F]
-- ==== Proof.Ker.Base.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's operands and what they hold -/

/-- The twenty-five operands of the kernel body, each a whole buffer. -/
structure Ops where
  a1 : Memref sig .tc .vmem S2048x768 .f32
  h1 : a1.IsWhole
  a2 : Memref sig .tc .vmem S2048x768 .f32
  h2 : a2.IsWhole
  a3 : Memref sig .tc .vmem S256x768 .f32
  h3 : a3.IsWhole
  a4 : Memref sig .tc .vmem S1x256 .f32
  h4 : a4.IsWhole
  a5 : Memref sig .tc .vmem S1x256 .f32
  h5 : a5.IsWhole
  a6 : Memref sig .tc .vmem S1x256 .f32
  h6 : a6.IsWhole
  a7 : Memref sig .tc .vmem S64x256 .f32
  h7 : a7.IsWhole
  a8 : Memref sig .tc .vmem S1x64 .f32
  h8 : a8.IsWhole
  a9 : Memref sig .tc .vmem S64x768 .f32
  h9 : a9.IsWhole
  a10 : Memref sig .tc .vmem S1x64 .f32
  h10 : a10.IsWhole
  a11 : Memref sig .tc .vmem S64x64 .f32
  h11 : a11.IsWhole
  a12 : Memref sig .tc .vmem S64x64 .f32
  h12 : a12.IsWhole
  a13 : Memref sig .tc .vmem S1x64 .f32
  h13 : a13.IsWhole
  a14 : Memref sig .tc .vmem S64x64 .f32
  h14 : a14.IsWhole
  a15 : Memref sig .tc .vmem S1x64 .f32
  h15 : a15.IsWhole
  a16 : Memref sig .tc .vmem S1x1 .f32
  h16 : a16.IsWhole
  a17 : Memref sig .tc .vmem S64x4096 .f32
  h17 : a17.IsWhole
  a18 : Memref sig .tc .vmem S65536x128 .bf16
  h18 : a18.IsWhole
  a19 : Memref sig .tc .vmem S8x64 .f32
  h19 : a19.IsWhole
  a20 : Memref sig .tc .vmem S64x64 .f32
  h20 : a20.IsWhole
  a21 : Memref sig .tc .vmem S128x256 .bf16
  h21 : a21.IsWhole
  a22 : Memref sig .tc .vmem S256x8 .f32
  h22 : a22.IsWhole
  a23 : Memref sig .tc .vmem S64x256 .f32
  h23 : a23.IsWhole
  a24 : Memref sig .tc .vmem S64x768 .f32
  h24 : a24.IsWhole
  a25 : Memref sig .tc .vmem S1x64 .f32
  h25 : a25.IsWhole

/-- The kernel body on the operands `A` at the grid coordinates `i`. -/
abbrev Ops.body (A : Ops) (i : grid0.Coords) : Prog (TpuEff nD τ sig (Elt F) Λ₀ .tc) PUnit :=
  cc0_rcwa_fused i A.a1 A.h1 A.a2 A.h2 A.a3 A.h3 A.a4 A.h4 A.a5 A.h5 A.a6 A.h6 A.a7 A.h7 A.a8 A.h8 A.a9 A.h9 A.a10 A.h10
    A.a11 A.h11 A.a12 A.h12 A.a13 A.h13 A.a14 A.h14 A.a15 A.h15 A.a16 A.h16 A.a17 A.h17 A.a18 A.h18 A.a19 A.h19 A.a20 A.h20
    A.a21 A.h21 A.a22 A.h22 A.a23 A.h23 A.a24 A.h24 A.a25 A.h25

/-- What the sixteen input operands hold at one grid point. -/
structure Blk (F : FTy → Type) where
  x0 : Vec F S2048x768 .f32
  x1 : Vec F S2048x768 .f32
  W1 : Vec F S256x768 .f32
  b1 : Vec F S1x256 .f32
  lg : Vec F S1x256 .f32
  lb : Vec F S1x256 .f32
  W2 : Vec F S64x256 .f32
  b2 : Vec F S1x64 .f32
  Wr : Vec F S64x768 .f32
  br : Vec F S1x64 .f32
  Wo : Vec F S64x64 .f32
  Wv : Vec F S64x64 .f32
  bv : Vec F S1x64 .f32
  Wm : Vec F S64x64 .f32
  bm : Vec F S1x64 .f32
  sc : Vec F S1x1 .f32

/-- What the eight scratch buffers hold: the projected rows, their sum, their second moments, the two matrices of the
    affine output and its offsets, and the three projection matrices prepared once. -/
structure Scr (F : FTy → Type) where
  xs : Vec F S65536x128 .bf16
  s1 : Vec F S8x64 .f32
  s2 : Vec F S64x64 .f32
  m2 : Vec F S128x256 .bf16
  c2 : Vec F S256x8 .f32
  w2f : Vec F S64x256 .f32
  wrf : Vec F S64x768 .f32
  bo : Vec F S1x64 .f32

/-- A whole operand held at contents it reads `X` from is the buffer at the one contents that read `X`. -/
theorem owns_whole_unread (c : Dev nD) {sp : Space} {sh : Shape} {e : EltTy} {A : Memref sig .tc sp sh e} (h : A.IsWhole)
    (X : sh.Idx → Elt F e) :
    (owns (c : Thread nD τ) A fullShare X : sProp 𝕄) = (A.view.loc (c : Thread nD τ) ↦[A.view.set]{fullShare} h.unread X) := by
  have h₁ : (owns (c : Thread nD τ) A fullShare X : sProp 𝕄) ⊢ (A.view.loc (c : Thread nD τ) ↦[A.view.set]{fullShare} h.unread X) := by
    unfold owns
    iintro ⟨%f, %hf, H⟩
    obtain rfl := h.eq_unread hf
    iexact H
  have h₂ : (A.view.loc (c : Thread nD τ) ↦[A.view.set]{fullShare} h.unread X : sProp 𝕄) ⊢ owns (c : Thread nD τ) A fullShare X := by
    unfold owns
    iintro H
    iexists _; isplitr
    · ipureintro; exact h.read_unread X
    iexact H
  exact BI.equiv_iff.mp ⟨h₁, h₂⟩

/-- The buffer at the contents that read `X` is the operand held at `X`. -/
theorem owns_unread (c : Dev nD) {sp : Space} {sh : Shape} {e : EltTy} {A : Memref sig .tc sp sh e} (h : A.IsWhole)
    (X : sh.Idx → Elt F e) :
    (A.view.loc (c : Thread nD τ) ↦[A.view.set]{fullShare} h.unread X : sProp 𝕄) ⊢ owns (c : Thread nD τ) A fullShare X :=
  (owns_whole_unread c h X).symm ▸ .rfl

/-- A load of a window after a store of the whole buffer reads that window of the payload. -/
theorem readCov_window {sp : Space} {sh : Shape} {e : EltTy} (v : View sig .tc sp sh e) {off off' size : Fin sh.rank → ℕ}
    (inb : ∀ a, off a + sh.size a ≤ sh.size a) (w : (Rect.unit off sh.size inb).shape.Idx → Elt F e) (L : List (View.Piece (Elt F) sh e))
    (inb' : ∀ a, off' a + size a ≤ sh.size a) :
    v.readCov (⟨Rect.unit off sh.size inb, w⟩ :: L) (Rect.unit off' size inb').toLoadRect
      = VecWindow.window (s := sh) w off' size inb' :=
  (View.readAt_unit v _ inb' rfl inb').trans (by rw [View.read_writes_full])

/-- The whole operand holds `X` once the pieces written into it read `X`. -/
theorem owns_of_writes (c : Dev nD) {sp : Space} {sh : Shape} {e : EltTy} {A : Memref sig .tc sp sh e}
    (f : A.view.ty.Contents (Elt F)) (L : List (View.Piece (Elt F) sh e)) (X : sh.Idx → Elt F e)
    (h : A.view.read (Elt F) (A.view.writes (Elt F) f L) = X) :
    (A.view.loc (c : Thread nD τ) ↦[A.view.set]{fullShare} A.view.writes (Elt F) f L : sProp 𝕄) ⊢ owns (c : Thread nD τ) A fullShare X := by
  unfold owns
  iintro H
  iexists _; isplitr
  · ipureintro; exact h
  iexact H

/-- The input operands held at `b`. -/
def Blk.own (c : Dev nD) (A : Ops) (b : Blk F) : sProp 𝕄 :=
  iprop(owns (c : Thread nD τ) A.a1 fullShare b.x0 ∗ owns (c : Thread nD τ) A.a2 fullShare b.x1
    ∗ owns (c : Thread nD τ) A.a3 fullShare b.W1 ∗ owns (c : Thread nD τ) A.a4 fullShare b.b1
    ∗ owns (c : Thread nD τ) A.a5 fullShare b.lg ∗ owns (c : Thread nD τ) A.a6 fullShare b.lb
    ∗ owns (c : Thread nD τ) A.a7 fullShare b.W2 ∗ owns (c : Thread nD τ) A.a8 fullShare b.b2
    ∗ owns (c : Thread nD τ) A.a9 fullShare b.Wr ∗ owns (c : Thread nD τ) A.a10 fullShare b.br
    ∗ owns (c : Thread nD τ) A.a11 fullShare b.Wo ∗ owns (c : Thread nD τ) A.a12 fullShare b.Wv
    ∗ owns (c : Thread nD τ) A.a13 fullShare b.bv ∗ owns (c : Thread nD τ) A.a14 fullShare b.Wm
    ∗ owns (c : Thread nD τ) A.a15 fullShare b.bm ∗ owns (c : Thread nD τ) A.a16 fullShare b.sc)

/-- The scratch operands held at `s`. -/
def Scr.own (c : Dev nD) (A : Ops) (s : Scr F) : sProp 𝕄 :=
  iprop(owns (c : Thread nD τ) A.a18 fullShare s.xs ∗ owns (c : Thread nD τ) A.a19 fullShare s.s1
    ∗ owns (c : Thread nD τ) A.a20 fullShare s.s2 ∗ owns (c : Thread nD τ) A.a21 fullShare s.m2
    ∗ owns (c : Thread nD τ) A.a22 fullShare s.c2 ∗ owns (c : Thread nD τ) A.a23 fullShare s.w2f
    ∗ owns (c : Thread nD τ) A.a24 fullShare s.wrf ∗ owns (c : Thread nD τ) A.a25 fullShare s.bo)

/-- The same operands as the buffers at the one contents that read each value. -/
theorem Blk.own_eq (c : Dev nD) (A : Ops) (b : Blk F) : (b.own c A : sProp 𝕄)
    = iprop((A.a1.view.loc (c : Thread nD τ) ↦[A.a1.view.set]{fullShare} A.h1.unread b.x0)
      ∗ (A.a2.view.loc (c : Thread nD τ) ↦[A.a2.view.set]{fullShare} A.h2.unread b.x1)
      ∗ (A.a3.view.loc (c : Thread nD τ) ↦[A.a3.view.set]{fullShare} A.h3.unread b.W1)
      ∗ (A.a4.view.loc (c : Thread nD τ) ↦[A.a4.view.set]{fullShare} A.h4.unread b.b1)
      ∗ (A.a5.view.loc (c : Thread nD τ) ↦[A.a5.view.set]{fullShare} A.h5.unread b.lg)
      ∗ (A.a6.view.loc (c : Thread nD τ) ↦[A.a6.view.set]{fullShare} A.h6.unread b.lb)
      ∗ (A.a7.view.loc (c : Thread nD τ) ↦[A.a7.view.set]{fullShare} A.h7.unread b.W2)
      ∗ (A.a8.view.loc (c : Thread nD τ) ↦[A.a8.view.set]{fullShare} A.h8.unread b.b2)
      ∗ (A.a9.view.loc (c : Thread nD τ) ↦[A.a9.view.set]{fullShare} A.h9.unread b.Wr)
      ∗ (A.a10.view.loc (c : Thread nD τ) ↦[A.a10.view.set]{fullShare} A.h10.unread b.br)
      ∗ (A.a11.view.loc (c : Thread nD τ) ↦[A.a11.view.set]{fullShare} A.h11.unread b.Wo)
      ∗ (A.a12.view.loc (c : Thread nD τ) ↦[A.a12.view.set]{fullShare} A.h12.unread b.Wv)
      ∗ (A.a13.view.loc (c : Thread nD τ) ↦[A.a13.view.set]{fullShare} A.h13.unread b.bv)
      ∗ (A.a14.view.loc (c : Thread nD τ) ↦[A.a14.view.set]{fullShare} A.h14.unread b.Wm)
      ∗ (A.a15.view.loc (c : Thread nD τ) ↦[A.a15.view.set]{fullShare} A.h15.unread b.bm)
      ∗ (A.a16.view.loc (c : Thread nD τ) ↦[A.a16.view.set]{fullShare} A.h16.unread b.sc)) := by
  unfold Blk.own
  simp only [owns_whole_unread c A.h1, owns_whole_unread c A.h2, owns_whole_unread c A.h3, owns_whole_unread c A.h4, owns_whole_unread c A.h5, owns_whole_unread c A.h6, owns_whole_unread c A.h7, owns_whole_unread c A.h8, owns_whole_unread c A.h9, owns_whole_unread c A.h10, owns_whole_unread c A.h11, owns_whole_unread c A.h12, owns_whole_unread c A.h13, owns_whole_unread c A.h14, owns_whole_unread c A.h15, owns_whole_unread c A.h16]

/-- The same operands as the buffers at the one contents that read each value. -/
theorem Scr.own_eq (c : Dev nD) (A : Ops) (s : Scr F) : (s.own c A : sProp 𝕄)
    = iprop((A.a18.view.loc (c : Thread nD τ) ↦[A.a18.view.set]{fullShare} A.h18.unread s.xs)
      ∗ (A.a19.view.loc (c : Thread nD τ) ↦[A.a19.view.set]{fullShare} A.h19.unread s.s1)
      ∗ (A.a20.view.loc (c : Thread nD τ) ↦[A.a20.view.set]{fullShare} A.h20.unread s.s2)
      ∗ (A.a21.view.loc (c : Thread nD τ) ↦[A.a21.view.set]{fullShare} A.h21.unread s.m2)
      ∗ (A.a22.view.loc (c : Thread nD τ) ↦[A.a22.view.set]{fullShare} A.h22.unread s.c2)
      ∗ (A.a23.view.loc (c : Thread nD τ) ↦[A.a23.view.set]{fullShare} A.h23.unread s.w2f)
      ∗ (A.a24.view.loc (c : Thread nD τ) ↦[A.a24.view.set]{fullShare} A.h24.unread s.wrf)
      ∗ (A.a25.view.loc (c : Thread nD τ) ↦[A.a25.view.set]{fullShare} A.h25.unread s.bo)) := by
  unfold Scr.own
  simp only [owns_whole_unread c A.h18, owns_whole_unread c A.h19, owns_whole_unread c A.h20, owns_whole_unread c A.h21, owns_whole_unread c A.h22, owns_whole_unread c A.h23, owns_whole_unread c A.h24, owns_whole_unread c A.h25]

/-! ## What one grid point does to the scratch and to the output block -/

/-- The scratch after the first point's preparation: both sums at zero and the output projection multiplied into the
    three feature projections. -/
def Scr.init (b : Blk F) (s : Scr F) : Scr F :=
  { s with s1 := k0_pay1, s2 := k0_pay2, w2f := k0_pay3 b.Wo b.W2, wrf := k0_pay4 b.Wo b.Wr, bo := k0_pay5 b.Wo b.b2 b.br }

/-- The feature activations of the even rows' block. -/
def hid0 (b : Blk F) : FVec F S2048x256 .f32 := k0_pay14 b.x0 b.W1 b.b1 b.lg b.lb
/-- The normalised activations of the odd rows' block, before the affine part and the nonlinearity. -/
def nrm1 (b : Blk F) : FVec F S2048x256 .f32 := k0_pay17 b.x1 b.W1 b.b1
/-- The projected rows of the first block. -/
def proj0 (b : Blk F) (s : Scr F) : FVec F S2048x64 .f32 := k0_pay15 b.x0 (hid0 b) s.w2f s.wrf s.bo

/-- The scratch after a statistics point: the two blocks of projected rows stored, their sum and second moments added. -/
def Scr.stat (i : grid0.Coords) (b : Blk F) (s : Scr F) : Scr F :=
  { s with
    xs := VecWindow.put (VecWindow.put s.xs (k0_off1 i) S2048x64.size (k0_pay16 b.x0 (hid0 b) s.w2f s.wrf s.bo))
      (k0_off2 i) S2048x64.size (k0_pay19 b.x1 (nrm1 b) b.lg b.lb s.w2f s.wrf s.bo)
    s1 := k0_pay6 (k0_pay20 (proj0 b s) b.x1 (nrm1 b) b.lg b.lb s.w2f s.wrf s.bo) s.s1
    s2 := k0_pay7 (k0_pay21 (proj0 b s) b.x1 (nrm1 b) b.lg b.lb s.w2f s.wrf s.bo) s.s2 }

/-- The row of sums the solving point reads. -/
def Scr.row (s : Scr F) : Vec F S1x64 .f32 := VecWindow.window s.s1 ![0, 0] S1x64.size inb_S8x64_S1x64_0_0

/-- The whitening matrix times a projection, from the statistics: the values branch. -/
def mvOf (b : Blk F) (s : Scr F) : FVec F S64x64 .f32 :=
  k0_pay30 (k0_pay23 (F := F)) (k0_pay25 s.row s.s2) (k0_pay26 s.row s.s2) (k0_pay27 s.row s.s2) (k0_pay28 s.row s.s2)
    (Scalar.ofBits .f32 0x3FC00000#32) b.Wv
/-- The whitening matrix times a projection, from the statistics: the gate branch. -/
def mmOf (b : Blk F) (s : Scr F) : FVec F S64x64 .f32 :=
  k0_pay31 (k0_pay23 (F := F)) (k0_pay25 s.row s.s2) (k0_pay26 s.row s.s2) (k0_pay27 s.row s.s2) (k0_pay28 s.row s.s2)
    (Scalar.ofBits .f32 0x3FC00000#32) b.Wm

/-- The scratch after the solving point: the matrix and the offsets of the affine output map. -/
def Scr.solve (b : Blk F) (s : Scr F) : Scr F :=
  { s with
    m2 := k0_pay9 (mvOf b s) (mmOf b s) b.sc
    c2 := k0_pay10 (k0_pay22 s.row) (mvOf b s) (mmOf b s) b.bv b.bm b.sc }

/-- The rows of projected features an output point reads. -/
def Scr.rows (i : grid0.Coords) (h : k0_cond4 i = 1#1) (s : Scr F) : Vec F S2048x128 .bf16 :=
  VecWindow.window s.xs (k0_off3 i) S2048x128.size (k0_off3_inb i h)

/-- The column of offsets an output point reads. -/
def Scr.col (s : Scr F) : Vec F S256x1 .f32 := VecWindow.window s.c2 ![0, 0] S256x1.size inb_S256x8_S256x1_0_0

/-- The output block an output point leaves over a block that held `o`: its left half from the first blocks' rows,
    its right half from the second blocks' rows. -/
def Scr.outOver (i : grid0.Coords) (h : k0_cond4 i = 1#1) (s : Scr F) (o : Vec F S64x4096 .f32) : Vec F S64x4096 .f32 :=
  VecWindow.put (VecWindow.put o ![0, 0] S64x2048.size (k0_pay12 (s.rows i h) s.m2 s.col))
    ![0, 2048] S64x2048.size (k0_pay13 (s.rows i h) s.m2 s.col)

end Cert.KernelIdeal.Hand

end
-- ==== Proof.Ker.State.lean ====
module

public import proofs.«01_k».proof.Proof.Ker.Base

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The grid points -/

/-- The grid has one axis: a point's coordinate is its number. -/
theorem coord_val (t : Fin cfg0.N) : (grid0.coords t 0).val = t.val := by
  have ht : t.val < 64 := Nat.lt_of_lt_of_eq t.isLt N_0
  have e0 : (grid0.coords t 0).val = t.val / 1 % 64 := Pipeline.Grid.coords_val t 0 (by decide) rfl
  omega

/-- The preparation runs at the first point only. -/
theorem cond_init (t : Fin cfg0.N) :
    (Scalar.cmpi .ne (Scalar.extui (Scalar.cmpi .eq (BitVec.ofNat 32 (grid0.coords t 0).val) 0#32)) 0#32) = 1#1 ↔ t.val = 0 := by
  have ht : t.val < 64 := Nat.lt_of_lt_of_eq t.isLt N_0
  simp only [coord_val]
  have h : (Scalar.cmpi .ne (Scalar.extui (Scalar.cmpi .eq (BitVec.ofNat 32 t.val) 0#32)) 0#32) = 1#1 ↔ t.val % 64 = 0 := by word_cmp
  rw [h]; omega

/-- The statistics run at the first half of the points. -/
theorem cond_stat : ∀ t : Fin cfg0.N, k0_cond2 (grid0.coords t) = 1#1 ↔ t.val < 32 :=
  (by decide +kernel : ∀ t : Fin grid0.N, k0_cond2 (grid0.coords t) = 1#1 ↔ t.val < 32)

/-- The solving runs at the first point of the second half only. -/
theorem cond_solve (t : Fin cfg0.N) :
    (Scalar.cmpi .ne (Scalar.extui (Scalar.cmpi .eq (BitVec.ofNat 32 (grid0.coords t 0).val) 32#32)) 0#32) = 1#1 ↔ t.val = 32 := by
  have ht : t.val < 64 := Nat.lt_of_lt_of_eq t.isLt N_0
  simp only [coord_val]
  have h : (Scalar.cmpi .ne (Scalar.extui (Scalar.cmpi .eq (BitVec.ofNat 32 t.val) 32#32)) 0#32) = 1#1 ↔ t.val % 64 = 32 := by word_cmp
  rw [h]; omega

/-- The output is written at the second half of the points. -/
theorem cond_out : ∀ t : Fin cfg0.N, k0_cond4 (grid0.coords t) = 1#1 ↔ 32 ≤ t.val :=
  (by decide +kernel : ∀ t : Fin grid0.N, k0_cond4 (grid0.coords t) = 1#1 ↔ 32 ≤ t.val)

/-- The output's window is idle through the first half. -/
theorem idle_out (t : Fin cfg0.N) (h : t.val < 32) : cfg0.idle 16 (grid0.coords t) = true := by
  have h4 : ¬ k0_cond4 (grid0.coords t) = 1#1 := fun e => absurd ((cond_out t).mp e) (by omega)
  show (!(k0_cond4 (grid0.coords t) == 1#1)) = true
  simpa using h4

/-- The output's window is live through the second half. -/
theorem live_out (t : Fin cfg0.N) (h : 32 ≤ t.val) : cfg0.idle 16 (grid0.coords t) = false := by
  have h4 : k0_cond4 (grid0.coords t) = 1#1 := (cond_out t).mpr h
  show (!(k0_cond4 (grid0.coords t) == 1#1)) = false
  simpa using h4

/-- No block of the output is written back in the first half. -/
theorem flush_out : ∀ t : Fin cfg0.N, (cfg0.win 16).flush t = true ↔ 32 ≤ t.val :=
  (by decide +kernel : ∀ t : Fin grid0.N, (cfg0.win 16).flush t = true ↔ 32 ≤ t.val)

/-- The output points' rows start at two thousand and forty-eight times their place in the second half. -/
theorem off3_eq : ∀ i : grid0.Coords, k0_cond4 i = 1#1 → k0_off3 i = ![2048 * ((i 0).val - 32), 0] := by decide +kernel

/-! ## The scratch along the grid -/

/-- The operands the body is called with at point `t`. -/
def opsAt (t : Fin cfg0.N) : Ops where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := win0_11.stage (cfg0.slots t 11)
  h12 := hstage0_11 ((cfg0.slots t 11).cast nbuf0_11)
  a13 := win0_12.stage (cfg0.slots t 12)
  h13 := hstage0_12 ((cfg0.slots t 12).cast nbuf0_12)
  a14 := win0_13.stage (cfg0.slots t 13)
  h14 := hstage0_13 ((cfg0.slots t 13).cast nbuf0_13)
  a15 := win0_14.stage (cfg0.slots t 14)
  h15 := hstage0_14 ((cfg0.slots t 14).cast nbuf0_14)
  a16 := win0_15.stage (cfg0.slots t 15)
  h16 := hstage0_15 ((cfg0.slots t 15).cast nbuf0_15)
  a17 := win0_16.stage (cfg0.slots t 16)
  h17 := hstage0_16 ((cfg0.slots t 16).cast nbuf0_16)
  a18 := Memref.whole cc0_scratch0
  h18 := Memref.isWhole_whole _
  a19 := Memref.whole cc0_scratch1
  h19 := Memref.isWhole_whole _
  a20 := Memref.whole cc0_scratch2
  h20 := Memref.isWhole_whole _
  a21 := Memref.whole cc0_scratch3
  h21 := Memref.isWhole_whole _
  a22 := Memref.whole cc0_scratch4
  h22 := Memref.isWhole_whole _
  a23 := Memref.whole cc0_scratch5
  h23 := Memref.isWhole_whole _
  a24 := Memref.whole cc0_scratch6
  h24 := Memref.isWhole_whole _
  a25 := Memref.whole cc0_scratch7
  h25 := Memref.isWhole_whole _

/-- The input blocks at point `t`. -/
def blkAt (c : Dev nD) (t : Fin cfg0.N) : Blk F where
  x0 := iblk m c 0 t
  x1 := iblk m c 1 t
  W1 := iblk m c 2 t
  b1 := iblk m c 3 t
  lg := iblk m c 4 t
  lb := iblk m c 5 t
  W2 := iblk m c 6 t
  b2 := iblk m c 7 t
  Wr := iblk m c 8 t
  br := iblk m c 9 t
  Wo := iblk m c 10 t
  Wv := iblk m c 11 t
  bv := iblk m c 12 t
  Wm := iblk m c 13 t
  bm := iblk m c 14 t
  sc := iblk m c 15 t

/-- What point `t` makes of the scratch. -/
def step (c : Dev nD) (t : Fin cfg0.N) (s : Scr F) : Scr F :=
  if t.val = 0 then (s.init (blkAt m c t)).stat (grid0.coords t) (blkAt m c t)
  else if t.val < 32 then s.stat (grid0.coords t) (blkAt m c t)
  else if t.val = 32 then s.solve (blkAt m c t)
  else s

/-- A scratch of zeros. -/
def Scr.zero : Scr F where
  xs := constant S65536x128 .bf16 0x0000#16
  s1 := k0_pay1
  s2 := k0_pay2
  m2 := constant S128x256 .bf16 0x0000#16
  c2 := constant S256x8 .f32 0x00000000#32
  w2f := constant S64x256 .f32 0x00000000#32
  wrf := constant S64x768 .f32 0x00000000#32
  bo := constant S1x64 .f32 0x00000000#32

/-- The scratch before point `n`, had it held zeros before the first. -/
def scrAt (c : Dev nD) : ℕ → Scr F
  | 0 => Scr.zero
  | n + 1 => if h : n < cfg0.N then step m c ⟨n, h⟩ (scrAt c n) else scrAt c n

theorem scrAt_succ (c : Dev nD) (t : Fin cfg0.N) : scrAt m c (t.val + 1) = step m c t (scrAt m c t.val) := by
  show (if h : t.val < cfg0.N then step m c ⟨t.val, h⟩ (scrAt m c t.val) else scrAt m c t.val) = _
  rw [dif_pos t.isLt]

/-- Two scratches agree as far as the first `n` points have written them. -/
structure Agree (n : ℕ) (s s' : Scr F) : Prop where
  sums : 0 < n → s.s1 = s'.s1 ∧ s.s2 = s'.s2 ∧ s.w2f = s'.w2f ∧ s.wrf = s'.wrf ∧ s.bo = s'.bo
  affine : 32 < n → s.m2 = s'.m2 ∧ s.c2 = s'.c2
  rows : ∀ y : S65536x128.Idx, (y 0).val < 2048 * n → s.xs y = s'.xs y

/-- A statistics point keeps agreement: equal prepared matrices and sums leave equal sums, and the rows it stores are
    equal. -/
theorem Agree.stat {n : ℕ} {s s' : Scr F} (hn : n < 32) (i : grid0.Coords) (hi : (i 0).val = n) (b : Blk F)
    (h1 : s.s1 = s'.s1) (h2 : s.s2 = s'.s2) (h3 : s.w2f = s'.w2f) (h4 : s.wrf = s'.wrf) (h5 : s.bo = s'.bo)
    (hr : ∀ y : S65536x128.Idx, (y 0).val < 2048 * n → s.xs y = s'.xs y) :
    Agree (n + 1) (s.stat i b) (s'.stat i b) := by
  have hp : proj0 b s = proj0 b s' := by unfold proj0; rw [h3, h4, h5]
  refine ⟨fun _ => ⟨?_, ?_, h3, h4, h5⟩, fun h => absurd h (by omega), fun y hy => ?_⟩
  · show k0_pay6 _ s.s1 = k0_pay6 _ s'.s1
    rw [hp, h1, h3, h4, h5]
  · show k0_pay7 _ s.s2 = k0_pay7 _ s'.s2
    rw [hp, h2, h3, h4, h5]
  · show VecWindow.put (VecWindow.put s.xs _ _ _) _ _ _ y = VecWindow.put (VecWindow.put s'.xs _ _ _) _ _ _ y
    rw [h3, h4, h5]
    unfold VecWindow.put
    by_cases hb : ∀ a, k0_off2 i a ≤ (y a).val ∧ (y a).val < k0_off2 i a + S2048x64.size a
    · rw [dif_pos hb, dif_pos hb]
    rw [dif_neg hb, dif_neg hb]
    by_cases ha : ∀ a, k0_off1 i a ≤ (y a).val ∧ (y a).val < k0_off1 i a + S2048x64.size a
    · rw [dif_pos ha, dif_pos ha]
    rw [dif_neg ha, dif_neg ha]
    refine hr y ?_
    by_contra hlt
    have hy1 : (y 1).val < 128 := (y 1).isLt
    by_cases hc : (y 1).val < 64
    · refine ha fun a => ?_
      rw [k0_off1_eq]
      fin_cases a
      · show 2048 * (i 0).val ≤ (y 0).val ∧ (y 0).val < 2048 * (i 0).val + 2048
        omega
      · show 0 ≤ (y 1).val ∧ (y 1).val < 0 + 64
        omega
    · refine hb fun a => ?_
      rw [k0_off2_eq]
      fin_cases a
      · show 2048 * (i 0).val ≤ (y 0).val ∧ (y 0).val < 2048 * (i 0).val + 2048
        omega
      · show 64 ≤ (y 1).val ∧ (y 1).val < 64 + 64
        omega

/-- Agreement is kept by every point. -/
theorem Agree.step (c : Dev nD) (t : Fin cfg0.N) {s s' : Scr F} (h : Agree t.val s s') :
    Agree (t.val + 1) (step m c t s) (step m c t s') := by
  unfold Hand.step
  by_cases h0 : t.val = 0
  · rw [if_pos h0, if_pos h0]
    exact Agree.stat (by omega) _ (coord_val t) _ rfl rfl rfl rfl rfl h.rows
  rw [if_neg h0, if_neg h0]
  obtain ⟨h1, h2, h3, h4, h5⟩ := h.sums (by omega)
  by_cases hs : t.val < 32
  · rw [if_pos hs, if_pos hs]
    exact Agree.stat hs _ (coord_val t) _ h1 h2 h3 h4 h5 h.rows
  rw [if_neg hs, if_neg hs]
  have hrows : s.xs = s'.xs := funext fun y => h.rows y (by have : (y 0).val < 65536 := (y 0).isLt; omega)
  by_cases hv : t.val = 32
  · rw [if_pos hv, if_pos hv]
    have hrow : s.row = s'.row := by unfold Scr.row; rw [h1]
    have hmv : mvOf (blkAt m c t) s = mvOf (blkAt m c t) s' := by unfold mvOf; rw [hrow, h2]
    have hmm : mmOf (blkAt m c t) s = mmOf (blkAt m c t) s' := by unfold mmOf; rw [hrow, h2]
    refine ⟨fun _ => ⟨h1, h2, h3, h4, h5⟩, fun _ => ⟨?_, ?_⟩, fun y _ => congrFun hrows y⟩
    · show k0_pay9 _ _ _ = k0_pay9 _ _ _
      rw [hmv, hmm]
    · show k0_pay10 _ _ _ _ _ _ = k0_pay10 _ _ _ _ _ _
      rw [hmv, hmm, hrow]
  rw [if_neg hv, if_neg hv]
  exact ⟨fun _ => ⟨h1, h2, h3, h4, h5⟩, fun _ => h.affine (by omega), fun y _ => congrFun hrows y⟩

/-- The two stores of an output point cover the block: what it held before does not matter. -/
theorem outOver_base (i : grid0.Coords) (h : k0_cond4 i = 1#1) (s : Scr F) (o o' : Vec F S64x4096 .f32) :
    s.outOver i h o = s.outOver i h o' := by
  funext y
  unfold Scr.outOver VecWindow.put
  by_cases hb : ∀ a, (![0, 2048] : Fin 2 → ℕ) a ≤ (y a).val ∧ (y a).val < (![0, 2048] : Fin 2 → ℕ) a + S64x2048.size a
  · rw [dif_pos hb, dif_pos hb]
  rw [dif_neg hb, dif_neg hb]
  have ha : ∀ a, (![0, 0] : Fin 2 → ℕ) a ≤ (y a).val ∧ (y a).val < (![0, 0] : Fin 2 → ℕ) a + S64x2048.size a := by
    have h0 : (y 0).val < 64 := (y 0).isLt
    have h1 : (y 1).val < 4096 := (y 1).isLt
    intro a
    fin_cases a
    · show 0 ≤ (y 0).val ∧ (y 0).val < 0 + 64
      omega
    · show 0 ≤ (y 1).val ∧ (y 1).val < 0 + 2048
      refine ⟨Nat.zero_le _, ?_⟩
      by_contra hlt
      refine hb fun a => ?_
      fin_cases a
      · show 0 ≤ (y 0).val ∧ (y 0).val < 0 + 64
        omega
      · show 2048 ≤ (y 1).val ∧ (y 1).val < 2048 + 2048
        omega
  rw [dif_pos ha, dif_pos ha]

/-- Scratches that agree through the solving point leave the same output block. -/
theorem Agree.out {n : ℕ} {s s' : Scr F} (hn : 32 < n) (h : Agree n s s') (i : grid0.Coords) (hi : k0_cond4 i = 1#1)
    (o o' : Vec F S64x4096 .f32) : s.outOver i hi o = s'.outOver i hi o' := by
  rw [outOver_base i hi s o o']
  obtain ⟨hm, hc⟩ := h.affine hn
  have hrows : s.xs = s'.xs := funext fun y => h.rows y (by have : (y 0).val < 65536 := (y 0).isLt; omega)
  unfold Scr.outOver Scr.rows Scr.col
  rw [hm, hc, hrows]

/-- The output block point `t` leaves, for a point of the second half. -/
def outAt (c : Dev nD) (t : Fin cfg0.N) : Vec F S64x4096 .f32 :=
  if h : k0_cond4 (grid0.coords t) = 1#1 then (scrAt m c (t.val + 1)).outOver (grid0.coords t) h (constant S64x4096 .f32 0x00000000#32)
  else constant S64x4096 .f32 0x00000000#32

end Cert.KernelIdeal.Hand

end
-- ==== Proof.Ker.RunInit.lean ====
module

public import proofs.«01_k».proof.Proof.Ker.Base

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1600000 in
/-- At the first point the body keeps its inputs and its output block and takes the scratch from `s` to the statistics step of the
    prepared scratch. -/
theorem run_init (c : Dev nD) (i : grid0.Coords) (A : Ops) (b : Blk F) (s : Scr F) (o : Vec F S64x4096 .f32)
    (hc0 : (Scalar.cmpi .ne (Scalar.extui (Scalar.cmpi .eq (BitVec.ofNat 32 (i 0).val) 0#32)) 0#32) = 1#1)
    (hc1 : k0_cond2 i = 1#1)
    (hc2 : ¬ (Scalar.cmpi .ne (Scalar.extui (Scalar.cmpi .eq (BitVec.ofNat 32 (i 0).val) 32#32)) 0#32) = 1#1)
    (hc3 : ¬ k0_cond4 i = 1#1) (E : Set ℕ) (K : PUnit → sProp 𝕄) :
    iprop(b.own c A ∗ owns (c : Thread nD τ) A.a17 fullShare o ∗ s.own c A
        ∗ (iprop(b.own c A ∗ owns (c : Thread nD τ) A.a17 fullShare o ∗ ((s.init b).stat i b).own c A) -∗ K ⟨⟩))
      ⊢ wp frame (wpE (defs₀ (F := F)) Variants.none c none) E (A.body i) K := by
  unfold Ops.body
  simp only [cc0_rcwa_fused_eq_skeleton]; unfold cc0_rcwa_fused_skel
  simp only [k0_part1_eq_skeleton, k0_part2_eq_skeleton, k0_part3_eq_skeleton]
  rw [Blk.own_eq, Scr.own_eq c A s, owns_whole_unread c A.h17]
  iintro ⟨⟨H1, H2, H3, H4, H5, H6, H7, H8, H9, H10, H11, H12, H13, H14, H15, H16⟩, H17, ⟨H18, H19, H20, H21, H22, H23, H24, H25⟩, Hk⟩
  sl_exec (disch := first | sl_exact hc0 | sl_exact hc1 | sl_exact hc2 | sl_exact hc3)
  sl_step
  iapply Hk
  isplitl [H1 H2 H3 H4 H5 H6 H7 H8 H9 H10 H11 H12 H13 H14 H15 H16]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [H17]; · iexact H17
  unfold Scr.own
  isplitl [H18]
  · unfold owns; iexists _; isplitr
    swap; · iexact H18
    ipureintro
    rw [View.read_writes_cons_put _ _ _ _ _ rfl, View.read_writes_cons_put _ _ _ _ _ rfl, View.writes_nil, A.h18.read_unread]
    sl_unfold_words
    repeat rw [View.readCov_full]
    repeat rw [View.readAt_full, Memref.IsWhole.read_unread]
    rfl
  isplitl [H19]
  · unfold owns; iexists _; isplitr
    swap; · iexact H19
    ipureintro
    sl_unfold_words
    repeat rw [View.readCov_full]
    repeat rw [View.readAt_full, Memref.IsWhole.read_unread]
    rw [View.read_writes_full]
    rfl
  isplitl [H20]
  · unfold owns; iexists _; isplitr
    swap; · iexact H20
    ipureintro
    sl_unfold_words
    repeat rw [View.readCov_full]
    repeat rw [View.readAt_full, Memref.IsWhole.read_unread]
    rw [View.read_writes_full]
    rfl
  isplitl [H21]; · iapply (owns_unread c A.h21 _); iexact H21
  isplitl [H22]; · iapply (owns_unread c A.h22 _); iexact H22
  isplitl [H23]
  · unfold owns; iexists _; isplitr
    swap; · iexact H23
    ipureintro
    sl_unfold_words
    repeat rw [View.readAt_full, Memref.IsWhole.read_unread]
    rw [View.read_writes_full]
    rfl
  isplitl [H24]
  · unfold owns; iexists _; isplitr
    swap; · iexact H24
    ipureintro
    sl_unfold_words
    repeat rw [View.readAt_full, Memref.IsWhole.read_unread]
    rw [View.read_writes_full]
    rfl
  unfold owns; iexists _; isplitr
  swap; · iexact H25
  ipureintro
  sl_unfold_words
  repeat rw [View.readAt_full, Memref.IsWhole.read_unread]
  rw [View.read_writes_full]
  rfl

end Cert.KernelIdeal.Hand

end
-- ==== Proof.Ker.RunStat.lean ====
module

public import proofs.«01_k».proof.Proof.Ker.Base

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1600000 in
/-- At a statistics point after the first, the body keeps its inputs and its output block and takes the scratch from `s` to
    `s.stat`. -/
theorem run_stat (c : Dev nD) (i : grid0.Coords) (A : Ops) (b : Blk F) (s : Scr F) (o : Vec F S64x4096 .f32)
    (hc0 : ¬ (Scalar.cmpi .ne (Scalar.extui (Scalar.cmpi .eq (BitVec.ofNat 32 (i 0).val) 0#32)) 0#32) = 1#1)
    (hc1 : k0_cond2 i = 1#1)
    (hc2 : ¬ (Scalar.cmpi .ne (Scalar.extui (Scalar.cmpi .eq (BitVec.ofNat 32 (i 0).val) 32#32)) 0#32) = 1#1)
    (hc3 : ¬ k0_cond4 i = 1#1) (E : Set ℕ) (K : PUnit → sProp 𝕄) :
    iprop(b.own c A ∗ owns (c : Thread nD τ) A.a17 fullShare o ∗ s.own c A
        ∗ (iprop(b.own c A ∗ owns (c : Thread nD τ) A.a17 fullShare o ∗ (s.stat i b).own c A) -∗ K ⟨⟩))
      ⊢ wp frame (wpE (defs₀ (F := F)) Variants.none c none) E (A.body i) K := by
  unfold Ops.body
  simp only [cc0_rcwa_fused_eq_skeleton]; unfold cc0_rcwa_fused_skel
  simp only [k0_part1_eq_skeleton, k0_part2_eq_skeleton, k0_part3_eq_skeleton]
  rw [Blk.own_eq, Scr.own_eq c A s, owns_whole_unread c A.h17]
  iintro ⟨⟨H1, H2, H3, H4, H5, H6, H7, H8, H9, H10, H11, H12, H13, H14, H15, H16⟩, H17, ⟨H18, H19, H20, H21, H22, H23, H24, H25⟩, Hk⟩
  sl_exec (disch := first | sl_exact hc0 | sl_exact hc1 | sl_exact hc2 | sl_exact hc3)
  sl_step
  iapply Hk
  isplitl [H1 H2 H3 H4 H5 H6 H7 H8 H9 H10 H11 H12 H13 H14 H15 H16]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [H17]; · iexact H17
  unfold Scr.own
  isplitl [H18]
  · unfold owns; iexists _; isplitr
    swap; · iexact H18
    ipureintro
    rw [View.read_writes_cons_put _ _ _ _ _ rfl, View.read_writes_cons_put _ _ _ _ _ rfl, View.writes_nil, A.h18.read_unread]
    sl_unfold_words
    repeat rw [View.readAt_full, Memref.IsWhole.read_unread]
    rfl
  isplitl [H19]
  · unfold owns; iexists _; isplitr
    swap; · iexact H19
    ipureintro
    sl_unfold_words
    repeat rw [View.readAt_full, Memref.IsWhole.read_unread]
    rw [View.read_writes_full]
    rfl
  isplitl [H20]
  · unfold owns; iexists _; isplitr
    swap; · iexact H20
    ipureintro
    sl_unfold_words
    repeat rw [View.readAt_full, Memref.IsWhole.read_unread]
    rw [View.read_writes_full]
    rfl
  isplitl [H21]; · iapply (owns_unread c A.h21 _); iexact H21
  isplitl [H22]; · iapply (owns_unread c A.h22 _); iexact H22
  isplitl [H23]; · iapply (owns_unread c A.h23 _); iexact H23
  isplitl [H24]; · iapply (owns_unread c A.h24 _); iexact H24
  iapply (owns_unread c A.h25 _); iexact H25

end Cert.KernelIdeal.Hand

end
-- ==== Proof.Ker.RunSolve.lean ====
module

public import proofs.«01_k».proof.Proof.Ker.Base

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1600000 in
/-- At the solving point the body keeps its inputs, takes the scratch from `s` to `s.solve`, and leaves the output block of that scratch. -/
theorem run_solve (c : Dev nD) (i : grid0.Coords) (A : Ops) (b : Blk F) (s : Scr F) (o : Vec F S64x4096 .f32)
    (hc0 : ¬ (Scalar.cmpi .ne (Scalar.extui (Scalar.cmpi .eq (BitVec.ofNat 32 (i 0).val) 0#32)) 0#32) = 1#1)
    (hc1 : ¬ k0_cond2 i = 1#1)
    (hc2 : (Scalar.cmpi .ne (Scalar.extui (Scalar.cmpi .eq (BitVec.ofNat 32 (i 0).val) 32#32)) 0#32) = 1#1)
    (hc3 : k0_cond4 i = 1#1) (E : Set ℕ) (K : PUnit → sProp 𝕄) :
    iprop(b.own c A ∗ owns (c : Thread nD τ) A.a17 fullShare o ∗ s.own c A
        ∗ (iprop(b.own c A ∗ owns (c : Thread nD τ) A.a17 fullShare ((s.solve b).outOver i hc3 o) ∗ (s.solve b).own c A) -∗ K ⟨⟩))
      ⊢ wp frame (wpE (defs₀ (F := F)) Variants.none c none) E (A.body i) K := by
  unfold Ops.body
  simp only [cc0_rcwa_fused_eq_skeleton]; unfold cc0_rcwa_fused_skel
  simp only [k0_part4_eq_skeleton, k0_part5_eq_skeleton]
  rw [Blk.own_eq, Scr.own_eq c A s, owns_whole_unread c A.h17]
  iintro ⟨⟨H1, H2, H3, H4, H5, H6, H7, H8, H9, H10, H11, H12, H13, H14, H15, H16⟩, H17, ⟨H18, H19, H20, H21, H22, H23, H24, H25⟩, Hk⟩
  sl_exec (disch := first | sl_exact hc0 | sl_exact hc1 | sl_exact hc2 | sl_exact hc3)
  sl_step
  iapply Hk
  isplitl [H1 H2 H3 H4 H5 H6 H7 H8 H9 H10 H11 H12 H13 H14 H15 H16]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [H17]
  · unfold owns; iexists _; isplitr
    swap; · iexact H17
    ipureintro
    rw [View.read_writes_cons_put _ _ _ _ _ rfl, View.read_writes_cons_put _ _ _ _ _ rfl, View.writes_nil, A.h17.read_unread]
    have hx : (s.solve b).rows i hc3 = A.a18.view.readAt (Elt F) (Rect.unit (s := S65536x128) (k0_off3 i) S2048x128.size (k0_off3_inb i hc3)).toLoadRect (A.h18.unread s.xs) := by
      rw [View.readAt_unit A.a18.view _ _ rfl (k0_off3_inb i hc3), Memref.IsWhole.read_unread]; rfl
    unfold Scr.outOver; rw [hx]
    sl_unfold_words
    rw [View.readCov_full, readCov_window]
    rw [View.readAt_unit A.a19.view _ _ rfl inb_S8x64_S1x64_0_0, Memref.IsWhole.read_unread]
    repeat rw [View.readAt_full, Memref.IsWhole.read_unread]
    rfl
  unfold Scr.own
  isplitl [H18]; · iapply (owns_unread c A.h18 _); iexact H18
  isplitl [H19]; · iapply (owns_unread c A.h19 _); iexact H19
  isplitl [H20]; · iapply (owns_unread c A.h20 _); iexact H20
  isplitl [H21]
  · unfold owns; iexists _; isplitr
    swap; · iexact H21
    ipureintro
    sl_unfold_words
    rw [View.read_writes_full, View.readAt_unit A.a19.view _ _ rfl inb_S8x64_S1x64_0_0, Memref.IsWhole.read_unread]
    repeat rw [View.readAt_full, Memref.IsWhole.read_unread]
    rfl
  isplitl [H22]
  · unfold owns; iexists _; isplitr
    swap; · iexact H22
    ipureintro
    sl_unfold_words
    rw [View.read_writes_full, View.readAt_unit A.a19.view _ _ rfl inb_S8x64_S1x64_0_0, Memref.IsWhole.read_unread]
    repeat rw [View.readAt_full, Memref.IsWhole.read_unread]
    rfl
  isplitl [H23]; · iapply (owns_unread c A.h23 _); iexact H23
  isplitl [H24]; · iapply (owns_unread c A.h24 _); iexact H24
  iapply (owns_unread c A.h25 _); iexact H25

end Cert.KernelIdeal.Hand

end
-- ==== Proof.Ker.RunOut.lean ====
module

public import proofs.«01_k».proof.Proof.Ker.Base

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1600000 in
/-- At an output point after the solving one the body keeps its inputs and its scratch and leaves the output block. -/
theorem run_out (c : Dev nD) (i : grid0.Coords) (A : Ops) (b : Blk F) (s : Scr F) (o : Vec F S64x4096 .f32)
    (hc0 : ¬ (Scalar.cmpi .ne (Scalar.extui (Scalar.cmpi .eq (BitVec.ofNat 32 (i 0).val) 0#32)) 0#32) = 1#1)
    (hc1 : ¬ k0_cond2 i = 1#1)
    (hc2 : ¬ (Scalar.cmpi .ne (Scalar.extui (Scalar.cmpi .eq (BitVec.ofNat 32 (i 0).val) 32#32)) 0#32) = 1#1)
    (hc3 : k0_cond4 i = 1#1) (E : Set ℕ) (K : PUnit → sProp 𝕄) :
    iprop(b.own c A ∗ owns (c : Thread nD τ) A.a17 fullShare o ∗ s.own c A
        ∗ (iprop(b.own c A ∗ owns (c : Thread nD τ) A.a17 fullShare (s.outOver i hc3 o) ∗ s.own c A) -∗ K ⟨⟩))
      ⊢ wp frame (wpE (defs₀ (F := F)) Variants.none c none) E (A.body i) K := by
  unfold Ops.body
  simp only [cc0_rcwa_fused_eq_skeleton]; unfold cc0_rcwa_fused_skel
  rw [Blk.own_eq, Scr.own_eq c A s, owns_whole_unread c A.h17]
  iintro ⟨⟨H1, H2, H3, H4, H5, H6, H7, H8, H9, H10, H11, H12, H13, H14, H15, H16⟩, H17, ⟨H18, H19, H20, H21, H22, H23, H24, H25⟩, Hk⟩
  sl_exec (disch := first | sl_exact hc0 | sl_exact hc1 | sl_exact hc2 | sl_exact hc3)
  sl_step
  iapply Hk
  isplitl [H1 H2 H3 H4 H5 H6 H7 H8 H9 H10 H11 H12 H13 H14 H15 H16]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [H17]
  · unfold owns; iexists _; isplitr
    swap; · iexact H17
    ipureintro
    rw [View.read_writes_cons_put _ _ _ _ _ rfl, View.read_writes_cons_put _ _ _ _ _ rfl, View.writes_nil, A.h17.read_unread]
    have hx : s.rows i hc3 = A.a18.view.readAt (Elt F) (Rect.unit (s := S65536x128) (k0_off3 i) S2048x128.size (k0_off3_inb i hc3)).toLoadRect (A.h18.unread s.xs) := by
      rw [View.readAt_unit A.a18.view _ _ rfl (k0_off3_inb i hc3), Memref.IsWhole.read_unread]; rfl
    unfold Scr.outOver; rw [hx]
    sl_unfold_words
    rw [View.readAt_full, Memref.IsWhole.read_unread, View.readAt_unit A.a22.view _ _ rfl inb_S256x8_S256x1_0_0, Memref.IsWhole.read_unread]
    rfl
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

end Cert.KernelIdeal.Hand

end
-- ==== Proof.Ker.Run.lean ====
module

public import proofs.«01_k».proof.Proof.Gen.KernelIdeal.Frame
public import proofs.«01_k».proof.Proof.Ker.State
public import proofs.«01_k».proof.Proof.Ker.RunInit
public import proofs.«01_k».proof.Proof.Ker.RunStat
public import proofs.«01_k».proof.Proof.Ker.RunSolve
public import proofs.«01_k».proof.Proof.Ker.RunOut

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The invariant -/

/-- The scratch buffers hold `s`. -/
def Scr.held (c : Dev nD) (s : Scr F) : sProp 𝕄 :=
  iprop(owns (c : Thread nD τ) (Memref.whole cc0_scratch0) fullShare s.xs
    ∗ owns (c : Thread nD τ) (Memref.whole cc0_scratch1) fullShare s.s1
    ∗ owns (c : Thread nD τ) (Memref.whole cc0_scratch2) fullShare s.s2
    ∗ owns (c : Thread nD τ) (Memref.whole cc0_scratch3) fullShare s.m2
    ∗ owns (c : Thread nD τ) (Memref.whole cc0_scratch4) fullShare s.c2
    ∗ owns (c : Thread nD τ) (Memref.whole cc0_scratch5) fullShare s.w2f
    ∗ owns (c : Thread nD τ) (Memref.whole cc0_scratch6) fullShare s.wrf
    ∗ owns (c : Thread nD τ) (Memref.whole cc0_scratch7) fullShare s.bo)

/-- Before point `n`: the scratch holds something that agrees with the computed one as far as it was written, and the
    generator register is at some state. -/
def Inv (c : Dev nD) (n : ℕ) : sProp 𝕄 :=
  iprop((∃ s : Scr F, iprop(⌜Agree n s (scrAt m c n)⌝ ∗ s.held c)) ∗ (∃ r, prngReg c r))

/-- What the program starts with beside the windows is the scratch at anything and the register at some state. -/
theorem start_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA
  rw [scopedRest0_eq]
  simp only [owns_whole]
  try rfl

/-- The proof data: each input's block is kept, the output's is what the scratch gives at a point of the second half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => outAt m c t
    | ⟨_ + 17, h⟩ => absurd h (Nat.not_lt.2 (Nat.le_add_left _ _))
  Φ t := Inv m c t.val
  q w := Pipeline.shareOf spec0 w
  owed _ := 0

theorem A_eq (c : Dev nD) (w : Fin cfg0.W) : (dats m 0 c).A w = V m c (Pipeline.arrRef spec0 w) := by
  dsimp only [dats]

theorem after_out (c : Dev nD) (t : Fin cfg0.N) : (dats m 0 c).after 16 t = outAt m c t := by dsimp only [dats]

theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d
theorem before_5 (c : Dev nD) (t : Fin cfg0.N) (d) : (dats m 0 c).before 5 t d = iblk m c 5 t :=
  before0_5_of m (dats m 0 c) (A_eq m c 5) (fun t => by dsimp only [dats]) t d
theorem before_6 (c : Dev nD) (t : Fin cfg0.N) (d) : (dats m 0 c).before 6 t d = iblk m c 6 t :=
  before0_6_of m (dats m 0 c) (A_eq m c 6) (fun t => by dsimp only [dats]) t d
theorem before_7 (c : Dev nD) (t : Fin cfg0.N) (d) : (dats m 0 c).before 7 t d = iblk m c 7 t :=
  before0_7_of m (dats m 0 c) (A_eq m c 7) (fun t => by dsimp only [dats]) t d
theorem before_8 (c : Dev nD) (t : Fin cfg0.N) (d) : (dats m 0 c).before 8 t d = iblk m c 8 t :=
  before0_8_of m (dats m 0 c) (A_eq m c 8) (fun t => by dsimp only [dats]) t d
theorem before_9 (c : Dev nD) (t : Fin cfg0.N) (d) : (dats m 0 c).before 9 t d = iblk m c 9 t :=
  before0_9_of m (dats m 0 c) (A_eq m c 9) (fun t => by dsimp only [dats]) t d
theorem before_10 (c : Dev nD) (t : Fin cfg0.N) (d) : (dats m 0 c).before 10 t d = iblk m c 10 t :=
  before0_10_of m (dats m 0 c) (A_eq m c 10) (fun t => by dsimp only [dats]) t d
theorem before_11 (c : Dev nD) (t : Fin cfg0.N) (d) : (dats m 0 c).before 11 t d = iblk m c 11 t :=
  before0_11_of m (dats m 0 c) (A_eq m c 11) (fun t => by dsimp only [dats]) t d
theorem before_12 (c : Dev nD) (t : Fin cfg0.N) (d) : (dats m 0 c).before 12 t d = iblk m c 12 t :=
  before0_12_of m (dats m 0 c) (A_eq m c 12) (fun t => by dsimp only [dats]) t d
theorem before_13 (c : Dev nD) (t : Fin cfg0.N) (d) : (dats m 0 c).before 13 t d = iblk m c 13 t :=
  before0_13_of m (dats m 0 c) (A_eq m c 13) (fun t => by dsimp only [dats]) t d
theorem before_14 (c : Dev nD) (t : Fin cfg0.N) (d) : (dats m 0 c).before 14 t d = iblk m c 14 t :=
  before0_14_of m (dats m 0 c) (A_eq m c 14) (fun t => by dsimp only [dats]) t d
theorem before_15 (c : Dev nD) (t : Fin cfg0.N) (d) : (dats m 0 c).before 15 t d = iblk m c 15 t :=
  before0_15_of m (dats m 0 c) (A_eq m c 15) (fun t => by dsimp only [dats]) t d
theorem leaves_0 (c : Dev nD) (t : Fin cfg0.N) : (dats m 0 c).leavesExact 0 t = owns (c : Thread nD τ) (st0_0 t) fullShare (iblk m c 0 t) := by
  rw [leaves_live m c 0 t rfl]; dsimp only [dats]
theorem leaves_1 (c : Dev nD) (t : Fin cfg0.N) : (dats m 0 c).leavesExact 1 t = owns (c : Thread nD τ) (st0_1 t) fullShare (iblk m c 1 t) := by
  rw [leaves_live m c 1 t rfl]; dsimp only [dats]
theorem leaves_2 (c : Dev nD) (t : Fin cfg0.N) : (dats m 0 c).leavesExact 2 t = owns (c : Thread nD τ) (st0_2 t) fullShare (iblk m c 2 t) := by
  rw [leaves_live m c 2 t rfl]; dsimp only [dats]
theorem leaves_3 (c : Dev nD) (t : Fin cfg0.N) : (dats m 0 c).leavesExact 3 t = owns (c : Thread nD τ) (st0_3 t) fullShare (iblk m c 3 t) := by
  rw [leaves_live m c 3 t rfl]; dsimp only [dats]
theorem leaves_4 (c : Dev nD) (t : Fin cfg0.N) : (dats m 0 c).leavesExact 4 t = owns (c : Thread nD τ) (st0_4 t) fullShare (iblk m c 4 t) := by
  rw [leaves_live m c 4 t rfl]; dsimp only [dats]
theorem leaves_5 (c : Dev nD) (t : Fin cfg0.N) : (dats m 0 c).leavesExact 5 t = owns (c : Thread nD τ) (st0_5 t) fullShare (iblk m c 5 t) := by
  rw [leaves_live m c 5 t rfl]; dsimp only [dats]
theorem leaves_6 (c : Dev nD) (t : Fin cfg0.N) : (dats m 0 c).leavesExact 6 t = owns (c : Thread nD τ) (st0_6 t) fullShare (iblk m c 6 t) := by
  rw [leaves_live m c 6 t rfl]; dsimp only [dats]
theorem leaves_7 (c : Dev nD) (t : Fin cfg0.N) : (dats m 0 c).leavesExact 7 t = owns (c : Thread nD τ) (st0_7 t) fullShare (iblk m c 7 t) := by
  rw [leaves_live m c 7 t rfl]; dsimp only [dats]
theorem leaves_8 (c : Dev nD) (t : Fin cfg0.N) : (dats m 0 c).leavesExact 8 t = owns (c : Thread nD τ) (st0_8 t) fullShare (iblk m c 8 t) := by
  rw [leaves_live m c 8 t rfl]; dsimp only [dats]
theorem leaves_9 (c : Dev nD) (t : Fin cfg0.N) : (dats m 0 c).leavesExact 9 t = owns (c : Thread nD τ) (st0_9 t) fullShare (iblk m c 9 t) := by
  rw [leaves_live m c 9 t rfl]; dsimp only [dats]
theorem leaves_10 (c : Dev nD) (t : Fin cfg0.N) : (dats m 0 c).leavesExact 10 t = owns (c : Thread nD τ) (st0_10 t) fullShare (iblk m c 10 t) := by
  rw [leaves_live m c 10 t rfl]; dsimp only [dats]
theorem leaves_11 (c : Dev nD) (t : Fin cfg0.N) : (dats m 0 c).leavesExact 11 t = owns (c : Thread nD τ) (st0_11 t) fullShare (iblk m c 11 t) := by
  rw [leaves_live m c 11 t rfl]; dsimp only [dats]
theorem leaves_12 (c : Dev nD) (t : Fin cfg0.N) : (dats m 0 c).leavesExact 12 t = owns (c : Thread nD τ) (st0_12 t) fullShare (iblk m c 12 t) := by
  rw [leaves_live m c 12 t rfl]; dsimp only [dats]
theorem leaves_13 (c : Dev nD) (t : Fin cfg0.N) : (dats m 0 c).leavesExact 13 t = owns (c : Thread nD τ) (st0_13 t) fullShare (iblk m c 13 t) := by
  rw [leaves_live m c 13 t rfl]; dsimp only [dats]
theorem leaves_14 (c : Dev nD) (t : Fin cfg0.N) : (dats m 0 c).leavesExact 14 t = owns (c : Thread nD τ) (st0_14 t) fullShare (iblk m c 14 t) := by
  rw [leaves_live m c 14 t rfl]; dsimp only [dats]
theorem leaves_15 (c : Dev nD) (t : Fin cfg0.N) : (dats m 0 c).leavesExact 15 t = owns (c : Thread nD τ) (st0_15 t) fullShare (iblk m c 15 t) := by
  rw [leaves_live m c 15 t rfl]; dsimp only [dats]

/-- What the body hands on at the output's window. -/
theorem leaves_out (c : Dev nD) (t : Fin cfg0.N) (h : 32 ≤ t.val) :
    (dats m 0 c).leavesExact 16 t = owns (c : Thread nD τ) (st0_16 t) fullShare (outAt m c t) := by
  rw [leaves_live m c 16 t (live_out t h), after_out]

theorem leaves_idle (c : Dev nD) (t : Fin cfg0.N) (h : t.val < 32) :
    (dats m 0 c).leavesExact 16 t = iprop(∃ d, owns (c : Thread nD τ) (st0_16 t) fullShare ((dats m 0 c).before 16 t d)) :=
  Dat.leavesExact_idle _ 16 t (idle_out t h) (by
    have hf := flush_out t
    by_contra hc
    rw [Bool.not_eq_false] at hc
    exact absurd (hf.mp hc) (by omega))

/-! ## One point -/

/-- The body at a point, from the input blocks, the output's buffer and the scratch. -/
theorem point (c : Dev nD) (t : Fin cfg0.N) (s : Scr F) (hs : Agree t.val s (scrAt m c t.val)) (d : (cfg0.win 16).block.Idx → Elt F (cfg0.win 16).elt)
    (K : PUnit → sProp 𝕄) :
    iprop((blkAt m c t).own c (opsAt t) ∗ owns (c : Thread nD τ) (st0_16 t) fullShare ((dats m 0 c).before 16 t d) ∗ s.held c
        ∗ (iprop((blkAt m c t).own c (opsAt t) ∗ (dats m 0 c).leavesExact 16 t ∗ (step m c t s).held c) -∗ K ⟨⟩))
      ⊢ wp frame (wpE (defs₀ (F := F)) Variants.none c none) Set.univ ((opsAt t).body (grid0.coords t)) K := by
  have hnext : Agree (t.val + 1) (step m c t s) (scrAt m c (t.val + 1)) := scrAt_succ m c t ▸ Agree.step m c t hs
  have hh : ∀ s : Scr F, (s.held c : sProp 𝕄) = s.own c (opsAt t) := fun _ => rfl
  rw [hh s, hh (step m c t s)]
  by_cases hlt : t.val < 32
  · rw [leaves_idle m c t hlt]
    by_cases h0 : t.val = 0
    · rw [show step m c t s = (s.init (blkAt m c t)).stat (grid0.coords t) (blkAt m c t) from by unfold step; rw [if_pos h0]]
      iintro ⟨Hb, Ho, Hs, Hk⟩
      iapply (run_init c (grid0.coords t) (opsAt t) (blkAt m c t) s ((dats m 0 c).before 16 t d) ((cond_init t).mpr h0)
        ((cond_stat t).mpr hlt) (fun h => absurd ((cond_solve t).mp h) (by omega)) (fun h => absurd ((cond_out t).mp h) (by omega)) Set.univ K)
      isplitl [Hb]; · iexact Hb
      isplitl [Ho]; · iexact Ho
      isplitl [Hs]; · iexact Hs
      iintro ⟨Hb, Ho, Hs⟩
      iapply Hk
      isplitl [Hb]; · iexact Hb
      isplitl [Ho]; · iexists d; iexact Ho
      iexact Hs
    · rw [show step m c t s = s.stat (grid0.coords t) (blkAt m c t) from by unfold step; rw [if_neg h0, if_pos hlt]]
      iintro ⟨Hb, Ho, Hs, Hk⟩
      iapply (run_stat c (grid0.coords t) (opsAt t) (blkAt m c t) s ((dats m 0 c).before 16 t d) (fun h => absurd ((cond_init t).mp h) h0)
        ((cond_stat t).mpr hlt) (fun h => absurd ((cond_solve t).mp h) (by omega)) (fun h => absurd ((cond_out t).mp h) (by omega)) Set.univ K)
      isplitl [Hb]; · iexact Hb
      isplitl [Ho]; · iexact Ho
      isplitl [Hs]; · iexact Hs
      iintro ⟨Hb, Ho, Hs⟩
      iapply Hk
      isplitl [Hb]; · iexact Hb
      isplitl [Ho]; · iexists d; iexact Ho
      iexact Hs
  · have hge : 32 ≤ t.val := by omega
    have hc4 : k0_cond4 (grid0.coords t) = 1#1 := (cond_out t).mpr hge
    rw [leaves_out m c t hge, show outAt m c t = (step m c t s).outOver (grid0.coords t) hc4 ((dats m 0 c).before 16 t d) from by
      unfold outAt; rw [dif_pos hc4]; exact (hnext.out (by omega) _ hc4 _ _).symm]
    by_cases h32 : t.val = 32
    · rw [show step m c t s = s.solve (blkAt m c t) from by unfold step; rw [if_neg (by omega), if_neg hlt, if_pos h32]]
      iintro ⟨Hb, Ho, Hs, Hk⟩
      iapply (run_solve c (grid0.coords t) (opsAt t) (blkAt m c t) s ((dats m 0 c).before 16 t d) (fun h => absurd ((cond_init t).mp h) (by omega))
        (fun h => absurd ((cond_stat t).mp h) (by omega)) ((cond_solve t).mpr h32) hc4 Set.univ K)
      isplitl [Hb]; · iexact Hb
      isplitl [Ho]; · iexact Ho
      isplitl [Hs]; · iexact Hs
      iintro ⟨Hb, Ho, Hs⟩
      iapply Hk
      isplitl [Hb]; · iexact Hb
      isplitl [Ho]; · iexact Ho
      iexact Hs
    · rw [show step m c t s = s from by unfold step; rw [if_neg (by omega), if_neg hlt, if_neg h32]]
      iintro ⟨Hb, Ho, Hs, Hk⟩
      iapply (run_out c (grid0.coords t) (opsAt t) (blkAt m c t) s ((dats m 0 c).before 16 t d) (fun h => absurd ((cond_init t).mp h) (by omega))
        (fun h => absurd ((cond_stat t).mp h) (by omega)) (fun h => absurd ((cond_solve t).mp h) h32) hc4 Set.univ K)
      isplitl [Hb]; · iexact Hb
      isplitl [Ho]; · iexact Ho
      isplitl [Hs]; · iexact Hs
      iintro ⟨Hb, Ho, Hs⟩
      iapply Hk
      isplitl [Hb]; · iexact Hb
      isplitl [Ho]; · iexact Ho
      iexact Hs

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 3200000 in
/-- The body keeps the invariant from each point to the next. -/
theorem sound (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9, before_10, before_11, before_12, before_13, before_14, before_15]
  rw [show (dats m 0 c).owesAt () t.succ = (dats m 0 c).owesAt () t.castSucc from rfl,
    show (dats m 0 c).Φ t.succ = Inv m c (t.val + 1) from rfl, show (dats m 0 c).Φ t.castSucc = Inv m c t.val from rfl]
  rw [leaves_0, leaves_1, leaves_2, leaves_3, leaves_4, leaves_5, leaves_6, leaves_7, leaves_8, leaves_9, leaves_10, leaves_11, leaves_12, leaves_13, leaves_14, leaves_15]
  unfold Inv
  iintro ⟨⟨⟨%s, %hs, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  have hnext : Agree (t.val + 1) (step m c t s) (scrAt m c (t.val + 1)) := scrAt_succ m c t ▸ Agree.step m c t hs
  iapply (point m c t s hs d16 _)
  isplitl [H0 H1 H2 H3 H4 H5 H6 H7 H8 H9 H10 H11 H12 H13 H14 H15]
  · unfold Blk.own
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  isplitl [H16]; · iexact H16
  isplitl [Hs]; · iexact Hs
  unfold Blk.own
  iintro ⟨⟨H0, H1, H2, H3, H4, H5, H6, H7, H8, H9, H10, H11, H12, H13, H14, H15⟩, H16, Hs⟩
  isplitl [Hs Hg]
  · isplitl [Hs]
    · iexists (step m c t s)
      isplitr
      · ipureintro; exact hnext
      iexact Hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem defs₀_row (t : Fin cfg0.N) :
    defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, defs₀_row]
  exact triple_restated (sound m c t) rfl .rfl fun _ => .rfl

theorem hin (c : Dev nD) : Pipeline.ΦA spec0 c ⊢ (dats m 0 c).Φ 0 := by
  rw [show (dats m 0 c).Φ 0 = Inv m c 0 from rfl, start_eq]
  unfold Inv
  iintro ⟨⟨⟨%d0, H0⟩, ⟨%d1, H1⟩, ⟨%d2, H2⟩, ⟨%d3, H3⟩, ⟨%d4, H4⟩, ⟨%d5, H5⟩, ⟨%d6, H6⟩, ⟨%d7, H7⟩⟩, Hg⟩
  isplitr [Hg]
  · iexists (⟨d0, d1, d2, d3, d4, d5, d6, d7⟩ : Scr F)
    isplitr
    · ipureintro
      exact ⟨fun h => absurd h (by omega), fun h => absurd h (by omega), fun y h => absurd h (by omega)⟩
    unfold Scr.held
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hg

theorem hout (c : Dev nD) : (dats m 0 c).Φ (Fin.last cfg0.N) ⊢ Pipeline.ΦA spec0 c := by
  rw [show (dats m 0 c).Φ (Fin.last cfg0.N) = Inv m c cfg0.N from rfl, start_eq]
  unfold Inv Scr.held
  iintro ⟨⟨%s, %hs, H0, H1, H2, H3, H4, H5, H6, H7⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7
  iexact Hg

/-! ## The run -/

variable (ρ : Dev nD → PrngReg)

set_option backward.isDefEq.respectTransparency.types false in
set_option maxHeartbeats 800000 in
/-- Every fair execution ends, with each window's array at what the proof data says, every other buffer at what the host
    operations leave, and every counter at zero. -/
theorem run_ideal : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (obligation m c).loose) (hq := fun _ _ _ => rfl) (howed := fun _ _ => rfl) (V₀ := V0 m) (opss := [hostOps1])
    (hsub := sfx_sub) (hfresh := sfx_fresh) (hkeep := sfx_keeps) (hmain := hmain m Variants.none) (hA := A_eq m) (hin := hin m) (hout := hout m)

end Cert.KernelIdeal.Hand

end
-- ==== Proof.Ker.Result.lean ====
module

public import proofs.«01_k».proof.Proof.Ker.Run
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No argument array changes. -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) ((θ_run defs _ _).mono (fun _ h => h.1) (run_ideal m ρ))

/-- Every fair execution ends, the arguments unchanged and every counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (kept m ρ) ((θ_run defs _ _).mono (fun _ h => h.2) (run_ideal m ρ))

/-- What the program returns: the output array, transposed. -/
def result (c : Dev nD) : Vec F S131072x64 .f32 :=
  transpose S131072x64 [1, 0] ((dats m 0 c).arrAt 16 cfg0.N : Vec F S64x131072 .f32) transposes_S64x131072_S131072x64_1_0

/-- The host operation after the region leaves the result. -/
theorem tail_result (c : Dev nD) : Pipeline.afterTail₀ cfgs (dats m) 0 (V0 m) [hostOps1] c main_v9 = result m c := by
  unfold Pipeline.afterTail₀
  simp only [List.flatten_cons, List.flatten_nil, List.append_nil, hostOps1]
  rw [StableHlo.after_cons, StableHlo.after_nil]
  refine (StableHlo.unary_result' _ _ _ _).trans ?_
  have hw := Pipeline.withArrays_arr_shared spec0 c (V0 m c) (fun w => (dats m 0 c).arrAt w (cfgs 0).N) (fun w w' hne e => ?_) 16
  · exact congrArg (transpose S131072x64 [1, 0] · transposes_S64x131072_S131072x64_1_0) hw
  · have hin : (cfg0.win w).isOut = false :=
      (by decide : ∀ w w' : Fin 17, w ≠ w' → Pipeline.arrRef spec0 w = Pipeline.arrRef spec0 w' → (spec0 w).isOut = false) w w' hne e
    exact ((dats m 0 c).arrAt_in w hin _).trans (A_eq m c w)

/-- Every fair execution ends with the result and the arguments unchanged. -/
theorem run_result : θ_run defs (onTc (τ := τ) (main (F := F))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h.2.1 c).2 main_v9 (by decide)).trans (tail_result m c), h.1 c⟩)
    (θ_run_and (kept m ρ) (run_ideal m ρ))

end Cert.KernelIdeal.Hand

end
-- ==== Proof.Ker.Same.lean ====
module

public import proofs.«01_k».proof.Defs
public import proofs.«01_k».proof.Proof.Gen.Kernel
public import proofs.«01_k».proof.Proof.Ker.Result
public import Idealize.ShloMosaic.Lib.Pipeline.Regions

@[expose] public section

set_option maxRecDepth 16384

noncomputable section

namespace Cert.Proof

open Idealize.ShloMosaic Idealize.ShloMosaic.TcCoe Idealize.SL.Sem

/-- The idealized program's frame, for the kernel's own float values. -/
def FrameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

/-- The kernel's program and the idealized one are the same text, so the kernel's frame is the idealized program's, read at
    the kernel's float values. -/
theorem frame_same : Cert.quiescent_Kernel (hKernel := Cert.Kernel.Gen.facts) = FrameAtBits := by
  chain_rfl

/-- The kernel leaves its arguments as they were. -/
theorem frame_kernel : Cert.quiescent_Kernel (hKernel := Cert.Kernel.Gen.facts) :=
  frame_same.mpr fun m g _ => Cert.KernelIdeal.Hand.frame_ideal (F := Bits) m g

end Cert.Proof

end
-- ==== Proof.Val.Args.lean ====
/- The windows' blocks read at coordinates: each is the launched argument at the matching place. -/
module

public import proofs.«01_k».proof.Proof.Ker.State
public import Idealize.ShloMosaic.Lib.Pipeline.ValueKit.Geometry
public import Idealize.ShloMosaic.Lib.Pointwise

@[expose] public section

set_option maxRecDepth 16384

noncomputable section

namespace Cert.Val

open Idealize.ShloMosaic Idealize.ShloMosaic.TcCoe
open Cert.KernelIdeal Cert.KernelIdeal.Gen

variable {F : FTy → Type} [FloatOps F]
variable (m : (ℓ : Loc nD τ sig) → Buf (Elt F) ℓ) (c : Dev nD)

/-! ## The index maps -/

theorem idx0 : ∀ t : Fin cfg0.N, win0_0.index t = ![2 * min t.val 31, 0] :=
  (by decide +kernel : ∀ t : Fin grid0.N, _)
theorem idx1 : ∀ t : Fin cfg0.N, win0_1.index t = ![2 * min t.val 31 + 1, 0] :=
  (by decide +kernel : ∀ t : Fin grid0.N, _)
theorem idx16 : ∀ t : Fin cfg0.N, win0_16.index t = ![0, t.val - 32] :=
  (by decide +kernel : ∀ t : Fin grid0.N, _)

/-! ## The rows' windows -/

theorem x0_read (t : Fin cfg0.N) (r : Fin 2048) (j : Fin 768) (q : Fin 131072) (hq : q.val = 4096 * min t.val 31 + r.val) :
    iblk m c 0 t (ix2 r j) = m ((c : Thread nD τ).loc main_arg0) (ix2 q j) := by
  blk_simp [iblk]
  rw [show V m c (Pipeline.arrRef spec0 0) = m ((c : Thread nD τ).loc main_arg0) from V_main_arg0 m c]
  refine congrArg _ (funext fun a => Fin.ext ?_)
  fin_cases a
  · blk_simp [idx0]
    simp [hq]; omega
  · blk_simp [idx0]
    simp

theorem x1_read (t : Fin cfg0.N) (r : Fin 2048) (j : Fin 768) (q : Fin 131072) (hq : q.val = 4096 * min t.val 31 + 2048 + r.val) :
    iblk m c 1 t (ix2 r j) = m ((c : Thread nD τ).loc main_arg0) (ix2 q j) := by
  blk_simp [iblk]
  rw [show V m c (Pipeline.arrRef spec0 1) = m ((c : Thread nD τ).loc main_arg0) from V_main_arg0 m c]
  refine congrArg _ (funext fun a => Fin.ext ?_)
  fin_cases a
  · blk_simp [idx1]
    simp [hq]; omega
  · blk_simp [idx1]
    simp

/-! ## The whole windows -/

/-- A window of a whole array reads the array. -/
theorem whole_read (t : Fin cfg0.N) :
    ((iblk m c 2 t : Vec F S256x768 .f32) = V m c main_arg1 ∧ (iblk m c 3 t : Vec F S1x256 .f32) = V m c main_v0
      ∧ (iblk m c 4 t : Vec F S1x256 .f32) = V m c main_v1 ∧ (iblk m c 5 t : Vec F S1x256 .f32) = V m c main_v2
      ∧ (iblk m c 6 t : Vec F S64x256 .f32) = V m c main_arg5 ∧ (iblk m c 7 t : Vec F S1x64 .f32) = V m c main_v3
      ∧ (iblk m c 8 t : Vec F S64x768 .f32) = V m c main_arg7)
    ∧ ((iblk m c 9 t : Vec F S1x64 .f32) = V m c main_v4 ∧ (iblk m c 10 t : Vec F S64x64 .f32) = V m c main_arg9
      ∧ (iblk m c 11 t : Vec F S64x64 .f32) = V m c main_arg10 ∧ (iblk m c 12 t : Vec F S1x64 .f32) = V m c main_v5
      ∧ (iblk m c 13 t : Vec F S64x64 .f32) = V m c main_arg12 ∧ (iblk m c 14 t : Vec F S1x64 .f32) = V m c main_v6
      ∧ (iblk m c 15 t : Vec F S1x1 .f32) = V m c main_v7) := by
  refine ⟨⟨?_, ?_, ?_, ?_, ?_, ?_, ?_⟩, ⟨?_, ?_, ?_, ?_, ?_, ?_, ?_⟩⟩ <;>
  · funext y
    blk_simp [iblk]
    refine congrArg _ (funext fun a => Fin.ext ?_)
    fin_cases a
    · refine Pipeline.Window.rect_emb_val_of_index_zero _ t _ ?_ y
      rfl
    · refine Pipeline.Window.rect_emb_val_of_index_zero _ t _ ?_ y
      rfl

/-- A reshaped argument is the argument as one row. -/
theorem row_read :
    ((V m c main_v0 : Vec F S1x256 .f32) = shapeCast S1x256 (m ((c : Thread nD τ).loc main_arg2)) shapeCasts_S256_S1x256
      ∧ (V m c main_v1 : Vec F S1x256 .f32) = shapeCast S1x256 (m ((c : Thread nD τ).loc main_arg3)) shapeCasts_S256_S1x256
      ∧ (V m c main_v2 : Vec F S1x256 .f32) = shapeCast S1x256 (m ((c : Thread nD τ).loc main_arg4)) shapeCasts_S256_S1x256
      ∧ (V m c main_v3 : Vec F S1x64 .f32) = shapeCast S1x64 (m ((c : Thread nD τ).loc main_arg6)) shapeCasts_S64_S1x64)
    ∧ ((V m c main_v4 : Vec F S1x64 .f32) = shapeCast S1x64 (m ((c : Thread nD τ).loc main_arg8)) shapeCasts_S64_S1x64
      ∧ (V m c main_v5 : Vec F S1x64 .f32) = shapeCast S1x64 (m ((c : Thread nD τ).loc main_arg11)) shapeCasts_S64_S1x64
      ∧ (V m c main_v6 : Vec F S1x64 .f32) = shapeCast S1x64 (m ((c : Thread nD τ).loc main_arg13)) shapeCasts_S64_S1x64
      ∧ (V m c main_v7 : Vec F S1x1 .f32) = shapeCast S1x1 (m ((c : Thread nD τ).loc main_arg14)) shapeCasts_S1_S1x1) := by
  refine ⟨⟨?_, ?_, ?_, ?_⟩, ⟨?_, ?_, ?_, ?_⟩⟩ <;>
  · simp only [V, V0, List.flatten_cons, List.flatten_nil, List.append_nil]
    after_results_simp
    rfl

end Cert.Val
-- ==== Proof.Val.Re.lean ====
/- Extended reals that are reals: how the operations act on them, and the literals of the two programs. -/
module

public import Idealize.ShloMosaic.Lib.Pointwise
public import Idealize.ShloMosaic.PureOps.Ideal.Laws

@[expose] public section

noncomputable section

namespace Cert.Val

open Idealize.ShloMosaic

theorem coe_sum {ι : Type} [Fintype ι] (f : ι → ℝ) : ∑ k, ((f k : ℝ) : EReal) = ((∑ k, f k : ℝ) : EReal) := by
  classical
  refine Finset.induction_on (Finset.univ : Finset ι) (by simp) ?_
  intro a s ha ih
  rw [Finset.sum_insert ha, Finset.sum_insert ha, ih, EReal.coe_add]

theorem div_coe {x y : ℝ} (h : y ≠ 0) : Ideal.div (x : EReal) (y : EReal) = ((x / y : ℝ) : EReal) := by
  rw [Ideal.div_coe h, ← EReal.coe_mul, mul_one_div]

theorem rsqrt_coe {x : ℝ} (h : 0 < x) : Ideal.rsqrt (x : EReal) = (((Real.sqrt x)⁻¹ : ℝ) : EReal) := by
  rw [Ideal.rsqrt_coe, if_neg h.not_gt, if_neg h.ne']

theorem sqrt_coe {x : ℝ} (h : 0 ≤ x) : Ideal.sqrt (x : EReal) = ((Real.sqrt x : ℝ) : EReal) := by
  rw [Ideal.sqrt_coe, if_neg h.not_gt]

/-- The error function on the reals. -/
def erfR (x : ℝ) : ℝ := 2 / Real.sqrt Real.pi * ∫ t in (0 : ℝ)..x, Real.exp (-(t ^ 2))

theorem erf_coe (x : ℝ) : Ideal.erf (x : EReal) = ((erfR x : ℝ) : EReal) := rfl

/-- The sigmoid on the reals. -/
def sg (x : ℝ) : ℝ := (1 + Real.exp (-x))⁻¹

theorem logistic_coe (x : ℝ) : Ideal.logistic (x : EReal) = ((sg x : ℝ) : EReal) := Ideal.logistic_coe x

theorem l256 : Ideal.ofBits .f32 0x43800000#32 = ((256 : ℝ) : EReal) := by
  simp [Ideal.ofBits, Ideal.ieee, -EReal.coe_mul]; norm_num
theorem lN : Ideal.ofBits .f32 0x48000000#32 = ((131072 : ℝ) : EReal) := by
  simp [Ideal.ofBits, Ideal.ieee, -EReal.coe_mul]; norm_num
theorem lN1 : Ideal.ofBits .f32 0x47FFFF80#32 = ((131071 : ℝ) : EReal) := by
  simp [Ideal.ofBits, Ideal.ieee, -EReal.coe_mul]; norm_num
theorem l15 : Ideal.ofBits .f32 0x3FC00000#32 = ((3 / 2 : ℝ) : EReal) := by
  simp [Ideal.ofBits, Ideal.ieee, -EReal.coe_mul]; norm_num
theorem l05 : Ideal.ofBits .f32 0x3F000000#32 = ((1 / 2 : ℝ) : EReal) := by
  simp [Ideal.ofBits, Ideal.ieee, -EReal.coe_mul]; norm_num
theorem l1 : Ideal.ofBits .f32 0x3F800000#32 = ((1 : ℝ) : EReal) := by
  rw [Ideal.ofBits_one_f32, EReal.coe_one]
theorem l0 : Ideal.ofBits .f32 0x00000000#32 = ((0 : ℝ) : EReal) := by
  rw [Ideal.ofBits_zero_f32, EReal.coe_zero]

/-- The small constant under the row's root. -/
def e5 : ℝ := 10995116 / 2 ^ 40
/-- The weight of the unit matrix in the covariance. -/
def e3 : ℝ := 8589935 / 2 ^ 33
/-- The small constant beside the trace. -/
def e6 : ℝ := 8796093 / 2 ^ 43
/-- The factor of the error function's argument. -/
def cg : ℝ := 11863283 / 2 ^ 24

theorem le5 : Ideal.ofBits .f32 0x3727C5AC#32 = ((e5 : ℝ) : EReal) := by
  unfold e5; simp [Ideal.ofBits, Ideal.ieee, -EReal.coe_mul]; norm_num
theorem le3 : Ideal.ofBits .f32 0x3A83126F#32 = ((e3 : ℝ) : EReal) := by
  unfold e3; simp [Ideal.ofBits, Ideal.ieee, -EReal.coe_mul]; norm_num
theorem le6 : Ideal.ofBits .f32 0x358637BD#32 = ((e6 : ℝ) : EReal) := by
  unfold e6; simp [Ideal.ofBits, Ideal.ieee, -EReal.coe_mul]; norm_num
theorem lcg : Ideal.ofBits .f32 0x3F3504F3#32 = ((cg : ℝ) : EReal) := by
  unfold cg; simp [Ideal.ofBits, Ideal.ieee, -EReal.coe_mul]; norm_num

end Cert.Val
-- ==== Proof.Val.Spec.lean ====
/- The computation on the reals: one row's projected features, the whitening matrix of their statistics, and the gated
   output, spelt once as the kernel orders it and once as the reference does. -/
module

public import proofs.«01_k».proof.Proof.Val.Re

@[expose] public section

noncomputable section

namespace Cert.Val

/-- The parameters of the layer, as real arrays. -/
structure Par where
  W1 : Fin 256 → Fin 768 → ℝ
  b1 : Fin 256 → ℝ
  g : Fin 256 → ℝ
  lb : Fin 256 → ℝ
  W2 : Fin 64 → Fin 256 → ℝ
  b2 : Fin 64 → ℝ
  Wr : Fin 64 → Fin 768 → ℝ
  br : Fin 64 → ℝ
  Wo : Fin 64 → Fin 64 → ℝ
  Wv : Fin 64 → Fin 64 → ℝ
  bv : Fin 64 → ℝ
  Wm : Fin 64 → Fin 64 → ℝ
  bm : Fin 64 → ℝ
  sc : ℝ

/-! ## One row -/

/-- The first linear map of a row. -/
def pre (P : Par) (x : Fin 768 → ℝ) (k : Fin 256) : ℝ := ∑ j, x j * P.W1 k j + P.b1 k
/-- The average of a row. -/
def avg (h : Fin 256 → ℝ) : ℝ := (∑ k, h k) / 256
/-- The variance of a row. -/
def vr (h : Fin 256 → ℝ) : ℝ := (∑ k, (h k - avg h) * (h k - avg h)) / 256
/-- The normalised row. -/
def nrm (h : Fin 256 → ℝ) (k : Fin 256) : ℝ := (h k - avg h) * (Real.sqrt (vr h + e5))⁻¹
/-- The nonlinearity. -/
def act (u : ℝ) : ℝ := (1 / 2 * u) * (1 + erfR (u * cg))
/-- The hidden activations of a row. -/
def hid (P : Par) (x : Fin 768 → ℝ) (k : Fin 256) : ℝ := act (nrm (pre P x) k * P.g k + P.lb k)

theorem e5_pos : 0 < e5 := by unfold e5; norm_num
theorem e3_pos : 0 < e3 := by unfold e3; norm_num
theorem e6_pos : 0 < e6 := by unfold e6; norm_num

theorem vr_nonneg (h : Fin 256 → ℝ) : 0 ≤ vr h :=
  div_nonneg (Finset.sum_nonneg fun k _ => mul_self_nonneg _) (by norm_num)

theorem vr_pos (h : Fin 256 → ℝ) : 0 < vr h + e5 := add_pos_of_nonneg_of_pos (vr_nonneg h) e5_pos

/-- The second feature map with the output projection multiplied in. -/
def w2f (P : Par) (n : Fin 64) (k : Fin 256) : ℝ := ∑ m, P.Wo n m * P.W2 m k
/-- The residual map with the output projection multiplied in. -/
def wrf (P : Par) (n : Fin 64) (j : Fin 768) : ℝ := ∑ m, P.Wo n m * P.Wr m j
/-- The two offsets with the output projection multiplied in. -/
def bof (P : Par) (n : Fin 64) : ℝ := ∑ m, (P.b2 m + P.br m) * P.Wo n m

/-- A row's projected features, through the prepared matrices. -/
def zK (P : Par) (x : Fin 768 → ℝ) (n : Fin 64) : ℝ :=
  (∑ k, hid P x k * w2f P n k + ∑ j, x j * wrf P n j) + bof P n
/-- A row's projected features, projected last. -/
def zR (P : Par) (x : Fin 768 → ℝ) (n : Fin 64) : ℝ :=
  ∑ m, ((∑ k, hid P x k * P.W2 m k + P.b2 m) + (∑ j, x j * P.Wr m j + P.br m)) * P.Wo n m

theorem swap_sum {α β : Type} [Fintype α] [Fintype β] (u : α → ℝ) (w : β → ℝ) (M : β → α → ℝ) :
    ∑ k, u k * ∑ m, w m * M m k = ∑ m, (∑ k, u k * M m k) * w m := by
  simp only [Finset.mul_sum, Finset.sum_mul]
  rw [Finset.sum_comm]
  exact Finset.sum_congr rfl fun m _ => Finset.sum_congr rfl fun k _ => by ring

theorem zK_eq (P : Par) (x : Fin 768 → ℝ) (n : Fin 64) : zK P x n = zR P x n := by
  unfold zK zR w2f wrf bof
  rw [swap_sum, swap_sum, ← Finset.sum_add_distrib, ← Finset.sum_add_distrib]
  exact Finset.sum_congr rfl fun m _ => by ring

/-! ## The whitening matrix -/

/-- A square array of the projected features' size. -/
abbrev Mat := Fin 64 → Fin 64 → ℝ

/-- The unit matrix. -/
def dl : Mat := fun i j => if i = j then 1 else 0
/-- The product. -/
def mul (a b : Mat) : Mat := fun i j => ∑ k, a i k * b k j
/-- The product with a transpose. -/
def mulT (a b : Mat) : Mat := fun i j => ∑ k, a i k * b j k

/-- The scale: one and a half traces and a little more. -/
def tn (s : Mat) : ℝ := (∑ a, s a a) * (3 / 2) + e6
/-- The covariance over its scale. -/
def sn (s : Mat) : Mat := fun i j => s i j / tn s
/-- One iteration towards the inverse root. -/
def ns (ss w : Mat) : Mat := mul (fun i j => 3 / 2 * dl i j - 1 / 2 * mulT (mul w ss) w i j) w
/-- Five iterations from the unit matrix. -/
def w5 (s : Mat) : Mat := ns (sn s) (ns (sn s) (ns (sn s) (ns (sn s) (ns (sn s) dl))))

/-- The covariance from the sums and the second moments. -/
def cvK (u : Fin 64 → ℝ) (q : Mat) : Mat := fun i j =>
  (q i j - 131072 * (u i / 131072 * (u j / 131072))) / 131071 + e3 * dl i j
/-- The whitening matrix times a projection. -/
def prj (s V : Mat) : Mat := fun j n => ∑ k, w5 s k j / Real.sqrt (tn s) * V n k

/-- The gated output of a row as the kernel orders it: `u` the row sums of the features, `s` the covariance. -/
def outK (P : Par) (u : Fin 64 → ℝ) (s : Mat) (z : Fin 64 → ℝ) (n : Fin 64) : ℝ :=
  (∑ j, prj s P.Wv j n * P.sc * z j + (P.bv n - ∑ j, u j / 131072 * prj s P.Wv j n) * P.sc)
    * sg (∑ j, prj s P.Wm j n * z j + (P.bm n - ∑ j, u j / 131072 * prj s P.Wm j n))

/-! ## The reference's order -/

variable {ι : Type} [Fintype ι]

/-- The average of the features over the rows. -/
def mu (Z : ι → Fin 64 → ℝ) (n : Fin 64) : ℝ := (∑ r, Z r n) / 131072
/-- The covariance of the centred features. -/
def cvR (Z : ι → Fin 64 → ℝ) : Mat := fun i j =>
  (∑ r, (Z r i - mu Z i) * (Z r j - mu Z j)) / 131071 + e3 * dl i j
/-- A row's whitened features. -/
def xw (Z : ι → Fin 64 → ℝ) (r : ι) (k : Fin 64) : ℝ :=
  ∑ j, (Z r j - mu Z j) / Real.sqrt (tn (cvR Z)) * w5 (cvR Z) k j
/-- The gated output of a row as the reference orders it. -/
def outR (P : Par) (Z : ι → Fin 64 → ℝ) (r : ι) (n : Fin 64) : ℝ :=
  (∑ k, xw Z r k * P.Wv n k + P.bv n) * (1 / (1 + Real.exp (-(∑ k, xw Z r k * P.Wm n k + P.bm n)))) * P.sc

theorem tn_pos (Z : ι → Fin 64 → ℝ) : 0 < tn (cvR Z) := by
  have h : 0 ≤ ∑ a, cvR Z a a := Finset.sum_nonneg fun a _ =>
    add_nonneg (div_nonneg (Finset.sum_nonneg fun r _ => mul_self_nonneg _) (by norm_num))
      (mul_nonneg e3_pos.le (by unfold dl; split <;> norm_num))
  unfold tn
  have := e6_pos
  positivity

/-- The two covariances agree: the centred second moments are the second moments less the averages' products. -/
theorem cv_eq (hc : Fintype.card ι = 131072) (Z : ι → Fin 64 → ℝ) :
    cvK (fun n => ∑ r, Z r n) (fun i j => ∑ r, Z r i * Z r j) = cvR Z := by
  funext i j
  unfold cvK cvR
  congr 2
  have h : ∀ r, (Z r i - mu Z i) * (Z r j - mu Z j) = Z r i * Z r j - mu Z j * Z r i - mu Z i * Z r j + mu Z i * mu Z j :=
    fun r => by ring
  simp only [h, Finset.sum_add_distrib, Finset.sum_sub_distrib, ← Finset.mul_sum, Finset.sum_const, Finset.card_univ, hc,
    nsmul_eq_mul]
  unfold mu
  push_cast
  ring

theorem xw_sum (Z : ι → Fin 64 → ℝ) (r : ι) (V : Mat) (n : Fin 64) :
    ∑ k, xw Z r k * V n k = ∑ j, Z r j * prj (cvR Z) V j n - ∑ j, mu Z j * prj (cvR Z) V j n := by
  rw [← Finset.sum_sub_distrib]
  unfold xw prj
  simp only [Finset.sum_mul, Finset.mul_sum, ← Finset.sum_sub_distrib]
  rw [Finset.sum_comm]
  exact Finset.sum_congr rfl fun j _ => Finset.sum_congr rfl fun k _ => by ring

/-- The two orders give the same output. -/
theorem out_eq (P : Par) (hc : Fintype.card ι = 131072) (Z : ι → Fin 64 → ℝ) (r : ι) (n : Fin 64) :
    outK P (fun n => ∑ r, Z r n) (cvK (fun n => ∑ r, Z r n) (fun i j => ∑ r, Z r i * Z r j)) (Z r) n = outR P Z r n := by
  rw [cv_eq hc]
  have h1 : ∀ V : Mat, ∑ k, xw Z r k * V n k
      = ∑ j, prj (cvR Z) V j n * Z r j - ∑ j, (∑ r, Z r j) / 131072 * prj (cvR Z) V j n := fun V => by
    rw [xw_sum]
    unfold mu
    simp only [mul_comm (prj _ _ _ _) (Z r _)]
  have h2 : ∑ j, prj (cvR Z) P.Wv j n * P.sc * Z r j = P.sc * ∑ j, prj (cvR Z) P.Wv j n * Z r j := by
    rw [Finset.mul_sum]
    exact Finset.sum_congr rfl fun j _ => by ring
  unfold outK outR sg
  rw [h1, h1, h2, one_div]
  have h3 : ∑ j, prj (cvR Z) P.Wm j n * Z r j - ∑ j, (∑ r, Z r j) / 131072 * prj (cvR Z) P.Wm j n + P.bm n
      = ∑ j, prj (cvR Z) P.Wm j n * Z r j + (P.bm n - ∑ j, (∑ r, Z r j) / 131072 * prj (cvR Z) P.Wm j n) := by ring
  rw [h3]
  ring

end Cert.Val
-- ==== Proof.Val.Pay.lean ====
/- The kernel's payloads at real operands: each is the real computation's array. -/
module

public import proofs.«01_k».proof.Proof.Val.Spec
public import proofs.«01_k».proof.Proof.Gen.KernelIdeal.Skeleton

@[expose] public section

set_option maxRecDepth 16384

noncomputable section

namespace Cert.Val

open Idealize.ShloMosaic Idealize.ShloMosaic.TcCoe
open Cert.KernelIdeal Cert.KernelIdeal.Gen

variable (P : Par)

theorem n256 : (256 : ℝ) ≠ 0 := by norm_num
theorem nN : (131072 : ℝ) ≠ 0 := by norm_num
theorem nN1 : (131071 : ℝ) ≠ 0 := by norm_num

/-! ## The two blocks of rows -/

/-- The normalised first map of the second block. -/
theorem pay17_val {x : Vec Ideal S2048x768 .f32} {W : Vec Ideal S256x768 .f32} {b : Vec Ideal S1x256 .f32}
    {X : Fin 2048 → Fin 768 → ℝ} (hx : ∀ r j, x (ix2 r j) = ((X r j : ℝ) : EReal))
    (hW : ∀ k j, W (ix2 k j) = ((P.W1 k j : ℝ) : EReal)) (hb : ∀ k, b (ix2 0 k) = ((P.b1 k : ℝ) : EReal))
    (r : Fin 2048) (k : Fin 256) :
    k0_pay17 x W b (ix2 r k) = ((nrm (pre P (X r)) k : ℝ) : EReal) := by
  pointwise [k0_pay17, dot_S2048x768_S256x768_S2048x256_1_1_0_0_n_n, hx, hW, hb]
  simp only [l256, le5, ← EReal.coe_mul, ← EReal.coe_add, ← EReal.coe_sub, coe_sum, div_coe n256]
  refine (congrArg _ (rsqrt_coe (vr_pos (pre P (X r))))).trans ?_
  rw [← EReal.coe_mul]
  rfl

/-- The hidden activations of the first block. -/
theorem pay14_val {x : Vec Ideal S2048x768 .f32} {W : Vec Ideal S256x768 .f32} {b g lb : Vec Ideal S1x256 .f32}
    {X : Fin 2048 → Fin 768 → ℝ} (hx : ∀ r j, x (ix2 r j) = ((X r j : ℝ) : EReal))
    (hW : ∀ k j, W (ix2 k j) = ((P.W1 k j : ℝ) : EReal)) (hb : ∀ k, b (ix2 0 k) = ((P.b1 k : ℝ) : EReal))
    (hg : ∀ k, g (ix2 0 k) = ((P.g k : ℝ) : EReal)) (hl : ∀ k, lb (ix2 0 k) = ((P.lb k : ℝ) : EReal))
    (r : Fin 2048) (k : Fin 256) :
    k0_pay14 x W b g lb (ix2 r k) = ((hid P (X r) k : ℝ) : EReal) := by
  have h := pay17_val P hx hW hb r k
  have e : k0_pay14 x W b g lb (ix2 r k)
      = Ideal.ofBits .f32 0x3F000000#32 * (k0_pay17 x W b (ix2 r k) * g (ix2 0 k) + lb (ix2 0 k))
        * (1 + Ideal.erf ((k0_pay17 x W b (ix2 r k) * g (ix2 0 k) + lb (ix2 0 k)) * Ideal.ofBits .f32 0x3F3504F3#32)) := by
    pointwise [k0_pay14, k0_pay17, Ideal.erf_def]
  rw [e, h, hg, hl, l05, lcg, ← EReal.coe_one]
  simp only [← EReal.coe_mul, ← EReal.coe_add, erf_coe]
  rfl

/-- The projected features of the first block. -/
theorem pay15_val {x : Vec Ideal S2048x768 .f32} {hd : FVec Ideal S2048x256 .f32} {wf : Vec Ideal S64x256 .f32}
    {wr : Vec Ideal S64x768 .f32} {bo : Vec Ideal S1x64 .f32}
    {X : Fin 2048 → Fin 768 → ℝ} (hx : ∀ r j, x (ix2 r j) = ((X r j : ℝ) : EReal))
    (hh : ∀ r k, hd (ix2 r k) = ((hid P (X r) k : ℝ) : EReal))
    (hf : ∀ n k, wf (ix2 n k) = ((w2f P n k : ℝ) : EReal)) (hr : ∀ n k, wr (ix2 n k) = ((wrf P n k : ℝ) : EReal))
    (ho : ∀ n, bo (ix2 0 n) = ((bof P n : ℝ) : EReal)) (r : Fin 2048) (n : Fin 64) :
    k0_pay15 x hd wf wr bo (ix2 r n) = ((zK P (X r) n : ℝ) : EReal) := by
  pointwise [k0_pay15, dot_S2048x256_S64x256_S2048x64_1_1_0_0_n_n, dot_S2048x768_S64x768_S2048x64_1_1_0_0_n_n, hx, hh, hf, hr, ho]
  simp only [← EReal.coe_mul, ← EReal.coe_add, coe_sum]
  rfl

/-- The projected features of the second block. -/
theorem pay18_val {x : Vec Ideal S2048x768 .f32} {nr : FVec Ideal S2048x256 .f32} {g lb : Vec Ideal S1x256 .f32}
    {wf : Vec Ideal S64x256 .f32} {wr : Vec Ideal S64x768 .f32} {bo : Vec Ideal S1x64 .f32}
    {X : Fin 2048 → Fin 768 → ℝ} (hx : ∀ r j, x (ix2 r j) = ((X r j : ℝ) : EReal))
    (hn : ∀ r k, nr (ix2 r k) = ((nrm (pre P (X r)) k : ℝ) : EReal))
    (hg : ∀ k, g (ix2 0 k) = ((P.g k : ℝ) : EReal)) (hl : ∀ k, lb (ix2 0 k) = ((P.lb k : ℝ) : EReal))
    (hf : ∀ n k, wf (ix2 n k) = ((w2f P n k : ℝ) : EReal)) (hr : ∀ n k, wr (ix2 n k) = ((wrf P n k : ℝ) : EReal))
    (ho : ∀ n, bo (ix2 0 n) = ((bof P n : ℝ) : EReal)) (r : Fin 2048) (n : Fin 64) :
    k0_pay18 x nr g lb wf wr bo (ix2 r n) = ((zK P (X r) n : ℝ) : EReal) := by
  pointwise [k0_pay18, Ideal.erf_def, dot_S2048x256_S64x256_S2048x64_1_1_0_0_n_n, dot_S2048x768_S64x768_S2048x64_1_1_0_0_n_n, hx, hn, hg, hl, hf, hr, ho]
  simp only [l05, lcg, ← EReal.coe_one, ← EReal.coe_mul, ← EReal.coe_add, erf_coe, coe_sum]
  rfl

/-- A change of format and of spelling leaves the first block's features. -/
theorem pay16_val {x : Vec Ideal S2048x768 .f32} {hd : FVec Ideal S2048x256 .f32} {wf : Vec Ideal S64x256 .f32}
    {wr : Vec Ideal S64x768 .f32} {bo : Vec Ideal S1x64 .f32} (r : Fin 2048) (n : Fin 64) :
    k0_pay16 x hd wf wr bo (ix2 r n) = k0_pay15 x hd wf wr bo (ix2 r n) := by
  pointwise [k0_pay16]

/-- The same for the second block's. -/
theorem pay19_val {x : Vec Ideal S2048x768 .f32} {nr : FVec Ideal S2048x256 .f32} {g lb : Vec Ideal S1x256 .f32}
    {wf : Vec Ideal S64x256 .f32} {wr : Vec Ideal S64x768 .f32} {bo : Vec Ideal S1x64 .f32} (r : Fin 2048) (n : Fin 64) :
    k0_pay19 x nr g lb wf wr bo (ix2 r n) = k0_pay18 x nr g lb wf wr bo (ix2 r n) := by
  pointwise [k0_pay19]

/-! ## The prepared matrices -/

theorem pay1_val (i : Fin 8) (n : Fin 64) : k0_pay1 (F := Ideal) (ix2 i n) = ((0 : ℝ) : EReal) := by
  pointwise [k0_pay1]
  rfl

theorem pay2_val (i n : Fin 64) : k0_pay2 (F := Ideal) (ix2 i n) = ((0 : ℝ) : EReal) := by
  pointwise [k0_pay2]
  rfl

theorem pay3_val {o : Vec Ideal S64x64 .f32} {w : Vec Ideal S64x256 .f32} (ho : ∀ i j, o (ix2 i j) = ((P.Wo i j : ℝ) : EReal))
    (hw : ∀ i j, w (ix2 i j) = ((P.W2 i j : ℝ) : EReal)) (n : Fin 64) (k : Fin 256) :
    k0_pay3 o w (ix2 n k) = ((w2f P n k : ℝ) : EReal) := by
  pointwise [k0_pay3, dot_S64x64_S64x256_S64x256_1_0_0_1_n_n, ho, hw]
  simp only [← EReal.coe_mul, coe_sum]
  rfl

theorem pay4_val {o : Vec Ideal S64x64 .f32} {w : Vec Ideal S64x768 .f32} (ho : ∀ i j, o (ix2 i j) = ((P.Wo i j : ℝ) : EReal))
    (hw : ∀ i j, w (ix2 i j) = ((P.Wr i j : ℝ) : EReal)) (n : Fin 64) (k : Fin 768) :
    k0_pay4 o w (ix2 n k) = ((wrf P n k : ℝ) : EReal) := by
  pointwise [k0_pay4, dot_S64x64_S64x768_S64x768_1_0_0_1_n_n, ho, hw]
  simp only [← EReal.coe_mul, coe_sum]
  rfl

theorem pay5_val {o : Vec Ideal S64x64 .f32} {u w : Vec Ideal S1x64 .f32} (ho : ∀ i j, o (ix2 i j) = ((P.Wo i j : ℝ) : EReal))
    (hu : ∀ j, u (ix2 0 j) = ((P.b2 j : ℝ) : EReal)) (hw : ∀ j, w (ix2 0 j) = ((P.br j : ℝ) : EReal)) (n : Fin 64) :
    k0_pay5 o u w (ix2 0 n) = ((bof P n : ℝ) : EReal) := by
  pointwise [k0_pay5, dot_S1x64_S64x64_S1x64_1_1_0_0_n_n, ho, hu, hw]
  simp only [← EReal.coe_mul, ← EReal.coe_add, coe_sum]
  rfl

/-! ## The sums over the rows -/

theorem pay20_val {z0 : FVec Ideal S2048x64 .f32} {x : Vec Ideal S2048x768 .f32} {nr : FVec Ideal S2048x256 .f32} {g lb : Vec Ideal S1x256 .f32}
    {wf : Vec Ideal S64x256 .f32} {wr : Vec Ideal S64x768 .f32} {bo : Vec Ideal S1x64 .f32} {Z0 Z1 : Fin 2048 → Fin 64 → ℝ}
    (h0 : ∀ r n, z0 (ix2 r n) = ((Z0 r n : ℝ) : EReal))
    (h1 : ∀ r n, k0_pay18 x nr g lb wf wr bo (ix2 r n) = ((Z1 r n : ℝ) : EReal)) (n : Fin 64) :
    k0_pay20 z0 x nr g lb wf wr bo (ix2 0 n) = ((∑ r, Z0 r n + ∑ r, Z1 r n : ℝ) : EReal) := by
  pointwise [k0_pay20, h0, h1]
  simp only [← EReal.coe_add, coe_sum]

theorem pay21_val {z0 : FVec Ideal S2048x64 .f32} {x : Vec Ideal S2048x768 .f32} {nr : FVec Ideal S2048x256 .f32} {g lb : Vec Ideal S1x256 .f32}
    {wf : Vec Ideal S64x256 .f32} {wr : Vec Ideal S64x768 .f32} {bo : Vec Ideal S1x64 .f32} {Z0 Z1 : Fin 2048 → Fin 64 → ℝ}
    (h0 : ∀ r n, z0 (ix2 r n) = ((Z0 r n : ℝ) : EReal))
    (h1 : ∀ r n, k0_pay18 x nr g lb wf wr bo (ix2 r n) = ((Z1 r n : ℝ) : EReal)) (i j : Fin 64) :
    k0_pay21 z0 x nr g lb wf wr bo (ix2 i j) = ((∑ r, Z0 r i * Z0 r j + ∑ r, Z1 r i * Z1 r j : ℝ) : EReal) := by
  pointwise [k0_pay21, dot_S2048x64_S2048x64_S64x64_0_0_1_1_n_n, h0, h1]
  simp only [← EReal.coe_mul, ← EReal.coe_add, coe_sum]

theorem pay6_val {v : FVec Ideal S1x64 .f32} {s : Vec Ideal S8x64 .f32} {V S : Fin 64 → ℝ}
    (hv : ∀ n, v (ix2 0 n) = ((V n : ℝ) : EReal)) (hs : ∀ i n, s (ix2 i n) = ((S n : ℝ) : EReal)) (i : Fin 8) (n : Fin 64) :
    k0_pay6 v s (ix2 i n) = ((S n + V n : ℝ) : EReal) := by
  pointwise [k0_pay6, hv, hs]
  rw [EReal.coe_add]

theorem pay7_val {v : FVec Ideal S64x64 .f32} {s : Vec Ideal S64x64 .f32} {V S : Mat}
    (hv : ∀ i n, v (ix2 i n) = ((V i n : ℝ) : EReal)) (hs : ∀ i n, s (ix2 i n) = ((S i n : ℝ) : EReal)) (i n : Fin 64) :
    k0_pay7 v s (ix2 i n) = ((S i n + V i n : ℝ) : EReal) := by
  pointwise [k0_pay7, hv, hs]
  rw [EReal.coe_add]

end Cert.Val
-- ==== Proof.Val.Whiten.lean ====
/- The whitening payloads and the output payloads at real operands. -/
module

public import proofs.«01_k».proof.Proof.Val.Pay
public import proofs.«01_k».proof.Proof.Gen.KernelIdeal.Skeleton

@[expose] public section

set_option maxRecDepth 16384

noncomputable section

namespace Cert.Val

open Idealize.ShloMosaic Idealize.ShloMosaic.TcCoe
open Cert.KernelIdeal Cert.KernelIdeal.Gen

variable (P : Par)

/-! ## The whitening -/

theorem pay22_val {v : Vec Ideal S1x64 .f32} {u : Fin 64 → ℝ} (hv : ∀ n, v (ix2 0 n) = ((u n : ℝ) : EReal)) (n : Fin 64) :
    k0_pay22 v (ix2 0 n) = ((u n / 131072 : ℝ) : EReal) := by
  pointwise [k0_pay22, hv]
  rw [lN, div_coe nN]

/-- Two coordinates below 64 as words are equal exactly when they are equal. -/
theorem word_eq (i j : Fin 64) : (BitVec.ofNat 32 i.val = BitVec.ofNat 32 j.val) ↔ i = j := by
  constructor
  · intro h
    have h' := congrArg BitVec.toNat h
    simp only [BitVec.toNat_ofNat] at h'
    rw [Nat.mod_eq_of_lt (by omega), Nat.mod_eq_of_lt (by omega)] at h'
    exact Fin.ext h'
  · rintro rfl; rfl

theorem pay23_val (i j : Fin 64) : k0_pay23 (F := Ideal) (ix2 i j) = ((dl i j : ℝ) : EReal) := by
  pointwise [k0_pay23]
  unfold dl
  by_cases h : i = j
  · subst h
    rw [if_pos rfl, IntOp.cmpi_eq.2 rfl]
    rfl
  · have hne : ¬ BitVec.ofNat 32 i.val = BitVec.ofNat 32 j.val := fun e => h ((word_eq i j).1 e)
    rw [if_neg h]
    have hc : IntOp.cmpi .eq (BitVec.ofNat 32 i.val) (BitVec.ofNat 32 j.val) = 0#1 := by
      show BitVec.ofBool (BitVec.ofNat 32 i.val == BitVec.ofNat 32 j.val) = 0#1
      rw [beq_eq_false_iff_ne.2 hne]
      rfl
    rw [hc]
    rfl

theorem pay24_val {v : Vec Ideal S1x64 .f32} {s : Vec Ideal S64x64 .f32} {u : Fin 64 → ℝ} {q : Mat}
    (hv : ∀ n, v (ix2 0 n) = ((u n : ℝ) : EReal)) (hs : ∀ i j, s (ix2 i j) = ((q i j : ℝ) : EReal)) (i j : Fin 64) :
    k0_pay24 v s (ix2 i j) = ((cvK u q i j : ℝ) : EReal) := by
  have h := pay22_val hv
  pointwise [k0_pay24, dot_S1x64_S1x64_S64x64_0_0_1_1_n_n, pay23_val, h, hs]
  simp only [Fin.sum_univ_one, h, lN, lN1, le3, ← EReal.coe_mul, ← EReal.coe_add, ← EReal.coe_sub, coe_sum, div_coe nN1, div_coe nN]
  rfl

theorem pay25_val {v : Vec Ideal S1x64 .f32} {s : Vec Ideal S64x64 .f32} {u : Fin 64 → ℝ} {q : Mat}
    (hv : ∀ n, v (ix2 0 n) = ((u n : ℝ) : EReal)) (hs : ∀ i j, s (ix2 i j) = ((q i j : ℝ) : EReal)) :
    k0_pay25 v s = ((tn (cvK u q) : ℝ) : EReal) := by
  have h := pay24_val hv hs
  pointwise [k0_pay25, pay23_val, h]
  have hd : ∀ a, ∑ b, cvK u q a b * dl a b = cvK u q a a := fun a => by
    simp [dl]
  simp only [l15, le6, ← EReal.coe_mul, ← EReal.coe_add, coe_sum, hd]
  rfl

theorem pay26_val {v : Vec Ideal S1x64 .f32} {s : Vec Ideal S64x64 .f32} {u : Fin 64 → ℝ} {q : Mat}
    (hv : ∀ n, v (ix2 0 n) = ((u n : ℝ) : EReal)) (hs : ∀ i j, s (ix2 i j) = ((q i j : ℝ) : EReal))
    (ht : 0 < tn (cvK u q)) (i j : Fin 64) :
    k0_pay26 v s (ix2 i j) = ((sn (cvK u q) i j : ℝ) : EReal) := by
  pointwise [k0_pay26, pay25_val hv hs, pay24_val hv hs]
  rw [div_coe ht.ne']
  rfl

/-- One iterate's second-order term. -/
def pv (ss w : FVec Ideal S64x64 .f32) : FVec Ideal S64x64 .f32 :=
  matmul dot_S64x64_S64x64_S64x64_1_1_0_0_n_n none
    (matmul dot_S64x64_S64x64_S64x64_1_0_0_1_n_n none w ss (constant S64x64 .f32 0x00000000#32)) w (constant S64x64 .f32 0x00000000#32)

/-- One iteration on arrays. -/
def nv (e ss w : FVec Ideal S64x64 .f32) : FVec Ideal S64x64 .f32 :=
  matmul dot_S64x64_S64x64_S64x64_1_0_0_1_n_n none
    (subf (mulf (broadcast S64x64 (Scalar.ofBits .f32 0x3FC00000#32)) e) (mulf (broadcast S64x64 (Scalar.ofBits .f32 0x3F000000#32)) (pv ss w)))
    w (constant S64x64 .f32 0x00000000#32)

theorem nv_val {e ss w : FVec Ideal S64x64 .f32} {S W : Mat} (he : ∀ i j, e (ix2 i j) = ((dl i j : ℝ) : EReal))
    (hs : ∀ i j, ss (ix2 i j) = ((S i j : ℝ) : EReal)) (hw : ∀ i j, w (ix2 i j) = ((W i j : ℝ) : EReal)) (i j : Fin 64) :
    nv e ss w (ix2 i j) = ((ns S W i j : ℝ) : EReal) := by
  pointwise [nv, pv, dot_S64x64_S64x64_S64x64_1_0_0_1_n_n, dot_S64x64_S64x64_S64x64_1_1_0_0_n_n, he, hs, hw]
  simp only [l15, l05, ← EReal.coe_mul, ← EReal.coe_add, ← EReal.coe_sub, coe_sum]
  rfl

theorem pay29_eq (e ss : FVec Ideal S64x64 .f32) (t : Ideal .f32) (w : FVec Ideal S64x64 .f32) :
    k0_pay29 e t ss w (pv ss w) (Scalar.ofBits .f32 0x3FC00000#32)
      = divf (nv e ss (nv e ss (nv e ss (nv e ss w)))) (broadcast S64x64 (Scalar.sqrt t)) := rfl

theorem pay27_eq (v : Vec Ideal S1x64 .f32) (s : Vec Ideal S64x64 .f32) :
    k0_pay27 v s = nv k0_pay23 (k0_pay26 v s) k0_pay23 := rfl
theorem pay28_eq (v : Vec Ideal S1x64 .f32) (s : Vec Ideal S64x64 .f32) :
    k0_pay28 v s = pv (k0_pay26 v s) (k0_pay27 v s) := rfl

section
variable {v : Vec Ideal S1x64 .f32} {s V : Vec Ideal S64x64 .f32} {u : Fin 64 → ℝ} {q M : Mat}

/-- The whitening matrix over the root of its scale. -/
theorem pay29_val (hv : ∀ n, v (ix2 0 n) = ((u n : ℝ) : EReal)) (hs : ∀ i j, s (ix2 i j) = ((q i j : ℝ) : EReal))
    (ht : 0 < tn (cvK u q)) (i j : Fin 64) :
    k0_pay29 k0_pay23 (k0_pay25 v s) (k0_pay26 v s) (k0_pay27 v s) (k0_pay28 v s) (Scalar.ofBits .f32 0x3FC00000#32) (ix2 i j)
      = ((w5 (cvK u q) i j / Real.sqrt (tn (cvK u q)) : ℝ) : EReal) := by
  have h26 := pay26_val hv hs ht
  have st := fun (w : FVec Ideal S64x64 .f32) (W : Mat) (hw : ∀ i j, w (ix2 i j) = ((W i j : ℝ) : EReal)) => nv_val pay23_val h26 hw
  rw [pay28_eq, pay29_eq, pay27_eq]
  have h5 := st _ _ (st _ _ (st _ _ (st _ _ (st _ _ pay23_val)))) i j
  generalize nv _ _ (nv _ _ (nv _ _ (nv _ _ (nv _ _ _)))) = a at h5 ⊢
  pointwise [pay25_val hv hs]
  rw [h5]
  refine (congrArg _ (sqrt_coe ht.le)).trans ?_
  rw [div_coe (Real.sqrt_pos.2 ht).ne']
  rfl

theorem pay30_val (hv : ∀ n, v (ix2 0 n) = ((u n : ℝ) : EReal)) (hs : ∀ i j, s (ix2 i j) = ((q i j : ℝ) : EReal))
    (ht : 0 < tn (cvK u q)) (hV : ∀ i j, V (ix2 i j) = ((M i j : ℝ) : EReal)) (i j : Fin 64) :
    k0_pay30 k0_pay23 (k0_pay25 v s) (k0_pay26 v s) (k0_pay27 v s) (k0_pay28 v s) (Scalar.ofBits .f32 0x3FC00000#32) V (ix2 i j)
      = ((prj (cvK u q) M i j : ℝ) : EReal) := by
  have h := pay29_val hv hs ht
  unfold k0_pay30
  generalize k0_pay29 (F := Ideal) _ _ _ _ _ _ = a at h ⊢
  pointwise [dot_S64x64_S64x64_S64x64_0_1_1_0_n_n, h, hV]
  simp only [← EReal.coe_mul, coe_sum]
  rfl

theorem pay31_eq (e : FVec Ideal S64x64 .f32) (t : Ideal .f32) (ss w p : FVec Ideal S64x64 .f32) (c : Ideal .f32) :
    k0_pay31 e t ss w p c V = k0_pay30 e t ss w p c V := rfl
end

end Cert.Val
-- ==== Proof.Val.Out.lean ====
/- The output payloads at real operands. -/
module

public import proofs.«01_k».proof.Proof.Val.Whiten
public import proofs.«01_k».proof.Proof.Gen.KernelIdeal.Skeleton

@[expose] public section

set_option maxRecDepth 16384

noncomputable section

namespace Cert.Val

open Idealize.ShloMosaic Idealize.ShloMosaic.TcCoe
open Cert.KernelIdeal Cert.KernelIdeal.Gen

variable (P : Par)

/-! ## The matrix and the offsets of the affine output -/

/-- The output matrix: both projections side by side, once for each half of the stored features. -/
def m2r (A B : Mat) (c : ℝ) (j : Fin 128) (k : Fin 256) : ℝ :=
  if h : j.val < 64 then
    if h1 : k.val < 128 then
      if h2 : k.val < 64 then A ⟨j.val, h⟩ ⟨k.val, h2⟩ * c else B ⟨j.val, h⟩ ⟨k.val - 64, by omega⟩
    else 0
  else if h1 : k.val < 128 then 0
  else if h2 : k.val - 128 < 64 then A ⟨j.val - 64, by omega⟩ ⟨k.val - 128, h2⟩ * c
  else B ⟨j.val - 64, by omega⟩ ⟨k.val - 128 - 64, by omega⟩

/-- The output offsets: both branches' offsets, twice. -/
def c2r (a b : Fin 64 → ℝ) (k : Fin 256) : ℝ :=
  if h : k.val < 64 then a ⟨k.val, h⟩
  else if h1 : k.val - 64 < 64 then b ⟨k.val - 64, h1⟩
  else if h2 : k.val - 64 - 64 < 64 then a ⟨k.val - 64 - 64, h2⟩
  else b ⟨k.val - 64 - 64 - 64, by omega⟩

/-- One output of the affine map at a row of stored features. -/
def yr (M : Fin 128 → Fin 256 → ℝ) (C : Fin 256 → ℝ) (x : Fin 128 → ℝ) (k : Fin 256) : ℝ := ∑ j, M j k * x j + C k

section
variable {mv mm : FVec Ideal S64x64 .f32} {sc : Vec Ideal S1x1 .f32} {A B : Mat} {c : ℝ}

theorem pay9_val (hA : ∀ i j, mv (ix2 i j) = ((A i j : ℝ) : EReal)) (hB : ∀ i j, mm (ix2 i j) = ((B i j : ℝ) : EReal))
    (hc : sc (ix2 0 0) = ((c : ℝ) : EReal)) (j : Fin 128) (k : Fin 256) :
    k0_pay9 mv mm sc (ix2 j k) = ((m2r A B c j k : ℝ) : EReal) := by
  pointwise [k0_pay9, k0_pay8]
  unfold m2r
  simp only [hA, hB, hc, ← EReal.coe_mul]
  split_ifs <;> rfl

theorem pay10_val {m : FVec Ideal S1x64 .f32} {bv bm : Vec Ideal S1x64 .f32} {u a b : Fin 64 → ℝ}
    (hm : ∀ n, m (ix2 0 n) = ((u n : ℝ) : EReal)) (ha : ∀ n, bv (ix2 0 n) = ((a n : ℝ) : EReal))
    (hb : ∀ n, bm (ix2 0 n) = ((b n : ℝ) : EReal))
    (hA : ∀ i j, mv (ix2 i j) = ((A i j : ℝ) : EReal)) (hB : ∀ i j, mm (ix2 i j) = ((B i j : ℝ) : EReal))
    (hc : sc (ix2 0 0) = ((c : ℝ) : EReal)) (k : Fin 256) (l : Fin 8) :
    k0_pay10 m mv mm bv bm sc (ix2 k l)
      = ((c2r (fun n => (a n - ∑ j, u j * A j n) * c) (fun n => b n - ∑ j, u j * B j n) k : ℝ) : EReal) := by
  pointwise [k0_pay10, k0_pay8, dot_S1x64_S64x64_S1x64_1_0_0_1_n_n]
  unfold c2r
  simp only [hA, hB, hc, ha, hb, hm, ← EReal.coe_mul, ← EReal.coe_sub, coe_sum]
  split_ifs <;> rfl
end

section
variable {x : Vec Ideal S2048x128 .bf16} {m : Vec Ideal S128x256 .bf16} {c : Vec Ideal S256x1 .f32}
  {X : Fin 2048 → Fin 128 → ℝ} {M : Fin 128 → Fin 256 → ℝ} {C : Fin 256 → ℝ}

theorem pay12_val (hx : ∀ r j, x (ix2 r j) = ((X r j : ℝ) : EReal)) (hm : ∀ j k, m (ix2 j k) = ((M j k : ℝ) : EReal))
    (hc : ∀ k, c (ix2 k 0) = ((C k : ℝ) : EReal)) (n : Fin 64) (r : Fin 2048) :
    k0_pay12 x m c (ix2 n r)
      = ((yr M C (X r) ⟨n.val, by omega⟩ * sg (yr M C (X r) ⟨64 + n.val, by omega⟩) : ℝ) : EReal) := by
  pointwise [k0_pay12, k0_pay11, dot_S128x256_S2048x128_S256x2048_0_1_1_0_n_n]
  simp only [hx, hm, hc, ← EReal.coe_mul, ← EReal.coe_add, coe_sum, logistic_coe]
  rfl

theorem pay13_val (hx : ∀ r j, x (ix2 r j) = ((X r j : ℝ) : EReal)) (hm : ∀ j k, m (ix2 j k) = ((M j k : ℝ) : EReal))
    (hc : ∀ k, c (ix2 k 0) = ((C k : ℝ) : EReal)) (n : Fin 64) (r : Fin 2048) :
    k0_pay13 x m c (ix2 n r)
      = ((yr M C (X r) ⟨128 + n.val, by omega⟩ * sg (yr M C (X r) ⟨192 + n.val, by omega⟩) : ℝ) : EReal) := by
  pointwise [k0_pay13, k0_pay11, dot_S128x256_S2048x128_S256x2048_0_1_1_0_n_n]
  simp only [hx, hm, hc, ← EReal.coe_mul, ← EReal.coe_add, coe_sum, logistic_coe]
  rfl
end

/-! ## The affine map in its four quarters -/

/-- The first half of a stored row: the even blocks' features. -/
def lo (x : Fin 128 → ℝ) (j : Fin 64) : ℝ := x ⟨j.val, by omega⟩
/-- The second half of a stored row: the odd blocks' features. -/
def hi (x : Fin 128 → ℝ) (j : Fin 64) : ℝ := x ⟨64 + j.val, by omega⟩

theorem sum_halves (f : Fin 128 → ℝ) : ∑ j, f j = ∑ j, lo f j + ∑ j, hi f j :=
  Fin.sum_univ_add (a := 64) (b := 64) f

section
variable (A B : Mat) (c : ℝ) (a b : Fin 64 → ℝ) (x : Fin 128 → ℝ) (n : Fin 64)

theorem yr_0 : yr (m2r A B c) (c2r a b) x ⟨n.val, by omega⟩ = ∑ j, A j n * c * lo x j + a n := by
  unfold yr
  rw [sum_halves]
  have h1 : n.val < 128 := by omega
  simp [lo, hi, m2r, c2r, h1]

theorem yr_1 : yr (m2r A B c) (c2r a b) x ⟨64 + n.val, by omega⟩ = ∑ j, B j n * lo x j + b n := by
  unfold yr
  rw [sum_halves]
  have h1 : 64 + n.val < 128 := by omega
  simp [lo, hi, m2r, c2r, h1]

theorem yr_2 : yr (m2r A B c) (c2r a b) x ⟨128 + n.val, by omega⟩ = ∑ j, A j n * c * hi x j + a n := by
  unfold yr
  rw [sum_halves]
  have h1 : ¬ 128 + n.val < 64 := by omega
  have h2 : ¬ 128 + n.val - 64 < 64 := by omega
  have h3 : 128 + n.val - 64 - 64 = n.val := by omega
  simp [lo, hi, m2r, c2r, h1, h2, h3]

theorem yr_3 : yr (m2r A B c) (c2r a b) x ⟨192 + n.val, by omega⟩ = ∑ j, B j n * hi x j + b n := by
  unfold yr
  rw [sum_halves]
  have h1 : ¬ 192 + n.val < 64 := by omega
  have h2 : ¬ 192 + n.val - 64 < 64 := by omega
  have h3 : ¬ 192 + n.val - 64 - 64 < 64 := by omega
  have h4 : ¬ 192 + n.val < 128 := by omega
  have h5 : ¬ 192 + n.val - 128 < 64 := by omega
  have h6 : 192 + n.val - 128 - 64 = n.val := by omega
  have h7 : 192 + n.val - 64 - 64 - 64 = n.val := by omega
  simp [lo, hi, m2r, c2r, h1, h2, h3, h4, h5, h6, h7]
end

end Cert.Val
-- ==== Proof.Val.Acc.lean ====
/- The kernel's scratch along the grid, at real arguments. -/
module

public import proofs.«01_k».proof.Proof.Val.Args
public import proofs.«01_k».proof.Proof.Val.Pay
public import proofs.«01_k».proof.Proof.Val.Out

@[expose] public section

set_option maxRecDepth 16384

noncomputable section

namespace Cert.Val

open Idealize.ShloMosaic Idealize.ShloMosaic.TcCoe
open Cert.KernelIdeal Cert.KernelIdeal.Gen
open Cert.KernelIdeal.Hand (Blk Scr blkAt scrAt)

/-! ## Real arguments -/

/-- The launched arrays hold the real parameters `P` and the real rows `X`. -/
structure Holds (m : (ℓ : Loc nD τ sig) → Buf (Elt Ideal) ℓ) (c : Dev nD) (P : Par) (X : ℕ → Fin 768 → ℝ) : Prop where
  x : ∀ (q : Fin 131072) (j : Fin 768), (m ((c : Thread nD τ).loc main_arg0) : Vec Ideal S131072x768 .f32) (ix2 q j) = ((X q.val j : ℝ) : EReal)
  W1 : ∀ (i : Fin 256) (j : Fin 768), (m ((c : Thread nD τ).loc main_arg1) : Vec Ideal S256x768 .f32) (ix2 i j) = ((P.W1 i j : ℝ) : EReal)
  b1 : ∀ i : Fin 256, (m ((c : Thread nD τ).loc main_arg2) : Vec Ideal S256 .f32) (ix1 i) = ((P.b1 i : ℝ) : EReal)
  g : ∀ i : Fin 256, (m ((c : Thread nD τ).loc main_arg3) : Vec Ideal S256 .f32) (ix1 i) = ((P.g i : ℝ) : EReal)
  lb : ∀ i : Fin 256, (m ((c : Thread nD τ).loc main_arg4) : Vec Ideal S256 .f32) (ix1 i) = ((P.lb i : ℝ) : EReal)
  W2 : ∀ (i : Fin 64) (j : Fin 256), (m ((c : Thread nD τ).loc main_arg5) : Vec Ideal S64x256 .f32) (ix2 i j) = ((P.W2 i j : ℝ) : EReal)
  b2 : ∀ i : Fin 64, (m ((c : Thread nD τ).loc main_arg6) : Vec Ideal S64 .f32) (ix1 i) = ((P.b2 i : ℝ) : EReal)
  Wr : ∀ (i : Fin 64) (j : Fin 768), (m ((c : Thread nD τ).loc main_arg7) : Vec Ideal S64x768 .f32) (ix2 i j) = ((P.Wr i j : ℝ) : EReal)
  br : ∀ i : Fin 64, (m ((c : Thread nD τ).loc main_arg8) : Vec Ideal S64 .f32) (ix1 i) = ((P.br i : ℝ) : EReal)
  Wo : ∀ i j : Fin 64, (m ((c : Thread nD τ).loc main_arg9) : Vec Ideal S64x64 .f32) (ix2 i j) = ((P.Wo i j : ℝ) : EReal)
  Wv : ∀ i j : Fin 64, (m ((c : Thread nD τ).loc main_arg10) : Vec Ideal S64x64 .f32) (ix2 i j) = ((P.Wv i j : ℝ) : EReal)
  bv : ∀ i : Fin 64, (m ((c : Thread nD τ).loc main_arg11) : Vec Ideal S64 .f32) (ix1 i) = ((P.bv i : ℝ) : EReal)
  Wm : ∀ i j : Fin 64, (m ((c : Thread nD τ).loc main_arg12) : Vec Ideal S64x64 .f32) (ix2 i j) = ((P.Wm i j : ℝ) : EReal)
  bm : ∀ i : Fin 64, (m ((c : Thread nD τ).loc main_arg13) : Vec Ideal S64 .f32) (ix1 i) = ((P.bm i : ℝ) : EReal)
  sc : ∀ i : Fin 1, (m ((c : Thread nD τ).loc main_arg14) : Vec Ideal S1 .f32) (ix1 i) = ((P.sc : ℝ) : EReal)

/-- The input blocks hold the real parameters and the real rows `X0` and `X1`. -/
structure Blocks (P : Par) (b : Blk Ideal) (X0 X1 : Fin 2048 → Fin 768 → ℝ) : Prop where
  x0 : ∀ r j, b.x0 (ix2 r j) = ((X0 r j : ℝ) : EReal)
  x1 : ∀ r j, b.x1 (ix2 r j) = ((X1 r j : ℝ) : EReal)
  W1 : ∀ i j, b.W1 (ix2 i j) = ((P.W1 i j : ℝ) : EReal)
  b1 : ∀ i, b.b1 (ix2 0 i) = ((P.b1 i : ℝ) : EReal)
  g : ∀ i, b.lg (ix2 0 i) = ((P.g i : ℝ) : EReal)
  lb : ∀ i, b.lb (ix2 0 i) = ((P.lb i : ℝ) : EReal)
  W2 : ∀ i j, b.W2 (ix2 i j) = ((P.W2 i j : ℝ) : EReal)
  b2 : ∀ i, b.b2 (ix2 0 i) = ((P.b2 i : ℝ) : EReal)
  Wr : ∀ i j, b.Wr (ix2 i j) = ((P.Wr i j : ℝ) : EReal)
  br : ∀ i, b.br (ix2 0 i) = ((P.br i : ℝ) : EReal)
  Wo : ∀ i j, b.Wo (ix2 i j) = ((P.Wo i j : ℝ) : EReal)
  Wv : ∀ i j, b.Wv (ix2 i j) = ((P.Wv i j : ℝ) : EReal)
  bv : ∀ i, b.bv (ix2 0 i) = ((P.bv i : ℝ) : EReal)
  Wm : ∀ i j, b.Wm (ix2 i j) = ((P.Wm i j : ℝ) : EReal)
  bm : ∀ i, b.bm (ix2 0 i) = ((P.bm i : ℝ) : EReal)
  sc : b.sc (ix2 0 0) = ((P.sc : ℝ) : EReal)

/-- A row made of a vector reads the vector. -/
theorem cast_row {n : ℕ} {v : (⟨1, ![n]⟩ : Shape).Idx → EReal} {w : (⟨2, ![1, n]⟩ : Shape).Idx → EReal} (h : (⟨1, ![n]⟩ : Shape).ShapeCasts ⟨2, ![1, n]⟩)
    (hw : w = shapeCast ⟨2, ![1, n]⟩ v h) (i : Fin n) : w (ix2 0 i) = v (ix1 i) := by
  subst hw
  exact shapeCast_apply v h _ _ (by
    rw [Shape.rowMajor_val_two, Shape.rowMajor_val_one]
    show i.val = 0 * n + i.val
    omega)

variable {m : (ℓ : Loc nD τ sig) → Buf (Elt Ideal) ℓ} {c : Dev nD} {P : Par} {X : ℕ → Fin 768 → ℝ}

set_option maxHeartbeats 1000000 in
theorem Holds.blocks (h : Holds m c P X) (t : Fin cfg0.N) :
    Blocks P (blkAt m c t) (fun r => X (4096 * min t.val 31 + r.val)) (fun r => X (4096 * min t.val 31 + 2048 + r.val)) := by
  obtain ⟨⟨e2, e3, e4, e5, e6, e7, e8⟩, ⟨e9, e10, e11, e12, e13, e14, e15⟩⟩ := whole_read m c t
  obtain ⟨⟨v0, v1, v2, v3⟩, ⟨v4, v5, v6, v7⟩⟩ := row_read (F := Ideal) m c
  have hr : ∀ r : Fin 2048, r.val < 2048 := fun r => r.isLt
  constructor
  · intro r j
    exact (x0_read m c t r j ⟨4096 * min t.val 31 + r.val, by have := hr r; omega⟩ rfl).trans (h.x _ _)
  · intro r j
    exact (x1_read m c t r j ⟨4096 * min t.val 31 + 2048 + r.val, by have := hr r; omega⟩ rfl).trans (h.x _ _)
  · intro i j
    exact (congrFun e2 (ix2 i j)).trans ((congrFun (V_main_arg1 m c) (ix2 i j)).trans (h.W1 i j))
  · intro i
    exact (cast_row _ (e3.trans v0) i).trans (h.b1 i)
  · intro i
    exact (cast_row _ (e4.trans v1) i).trans (h.g i)
  · intro i
    exact (cast_row _ (e5.trans v2) i).trans (h.lb i)
  · intro i j
    exact (congrFun e6 (ix2 i j)).trans ((congrFun (V_main_arg5 m c) (ix2 i j)).trans (h.W2 i j))
  · intro i
    exact (cast_row _ (e7.trans v3) i).trans (h.b2 i)
  · intro i j
    exact (congrFun e8 (ix2 i j)).trans ((congrFun (V_main_arg7 m c) (ix2 i j)).trans (h.Wr i j))
  · intro i
    exact (cast_row _ (e9.trans v4) i).trans (h.br i)
  · intro i j
    exact (congrFun e10 (ix2 i j)).trans ((congrFun (V_main_arg9 m c) (ix2 i j)).trans (h.Wo i j))
  · intro i j
    exact (congrFun e11 (ix2 i j)).trans ((congrFun (V_main_arg10 m c) (ix2 i j)).trans (h.Wv i j))
  · intro i
    exact (cast_row _ (e12.trans v5) i).trans (h.bv i)
  · intro i j
    exact (congrFun e13 (ix2 i j)).trans ((congrFun (V_main_arg12 m c) (ix2 i j)).trans (h.Wm i j))
  · intro i
    exact (cast_row _ (e14.trans v6) i).trans (h.bm i)
  · exact (cast_row _ (e15.trans v7) 0).trans (h.sc 0)

/-! ## The scratch -/

/-- The stored row `q`: the features of a row of an even block, then those of the matching row of the odd block. -/
def xr (P : Par) (X : ℕ → Fin 768 → ℝ) (q : ℕ) (j : Fin 128) : ℝ :=
  if h : j.val < 64 then zK P (X (4096 * (q / 2048) + q % 2048)) ⟨j.val, h⟩
  else zK P (X (4096 * (q / 2048) + 2048 + q % 2048)) ⟨j.val - 64, by omega⟩

/-- The prepared matrices. -/
structure Prep (P : Par) (s : Scr Ideal) : Prop where
  w2 : ∀ n k, s.w2f (ix2 n k) = ((w2f P n k : ℝ) : EReal)
  wr : ∀ n k, s.wrf (ix2 n k) = ((wrf P n k : ℝ) : EReal)
  bo : ∀ n, s.bo (ix2 0 n) = ((bof P n : ℝ) : EReal)

/-- The sums over the first `n` points' rows, and those rows. -/
structure Sums (P : Par) (X : ℕ → Fin 768 → ℝ) (n : ℕ) (s : Scr Ideal) : Prop where
  s1 : ∀ i k, s.s1 (ix2 i k) = ((∑ r ∈ Finset.range (4096 * n), zK P (X r) k : ℝ) : EReal)
  s2 : ∀ i j, s.s2 (ix2 i j) = ((∑ r ∈ Finset.range (4096 * n), zK P (X r) i * zK P (X r) j : ℝ) : EReal)
  xs : ∀ (q : Fin 65536) (j : Fin 128), q.val < 2048 * n → s.xs (ix2 q j) = ((xr P X q.val j : ℝ) : EReal)

theorem Blocks.init {b : Blk Ideal} {X0 X1 : Fin 2048 → Fin 768 → ℝ} (h : Blocks P b X0 X1) (s : Scr Ideal) :
    Prep P (s.init b) ∧ Sums P X 0 (s.init b) := by
  refine ⟨⟨pay3_val P h.Wo h.W2, pay4_val P h.Wo h.Wr, pay5_val P h.Wo h.b2 h.br⟩, ⟨fun i k => ?_, fun i j => ?_, fun q j hq => absurd hq (by omega)⟩⟩
  · exact (pay1_val i k).trans (by simp)
  · exact (pay2_val i j).trans (by simp)

/-- A sum over the next point's rows. -/
theorem sum_step (f : ℕ → ℝ) (n : ℕ) :
    ∑ r ∈ Finset.range (4096 * (n + 1)), f r
      = ∑ r ∈ Finset.range (4096 * n), f r + (∑ r : Fin 2048, f (4096 * n + r.val) + ∑ r : Fin 2048, f (4096 * n + 2048 + r.val)) := by
  rw [show 4096 * (n + 1) = (4096 * n + 2048) + 2048 by ring, Finset.sum_range_add, Finset.sum_range_add, add_assoc,
    Finset.sum_range (fun x => f (4096 * n + x)), Finset.sum_range (fun x => f (4096 * n + 2048 + x))]

theorem Blocks.stat {b : Blk Ideal} {n : ℕ} {s : Scr Ideal} (hn : n < 32) (i : grid0.Coords) (hi : (i 0).val = n)
    (h : Blocks P b (fun r => X (4096 * n + r.val)) (fun r => X (4096 * n + 2048 + r.val))) (hp : Prep P s) (hs : Sums P X n s) :
    Prep P (s.stat i b) ∧ Sums P X (n + 1) (s.stat i b) := by
  have hh := pay14_val P h.x0 h.W1 h.b1 h.g h.lb
  have hz0 := pay15_val P h.x0 hh hp.w2 hp.wr hp.bo
  have hz1 := pay18_val P h.x1 (pay17_val P h.x1 h.W1 h.b1) h.g h.lb hp.w2 hp.wr hp.bo
  refine ⟨⟨hp.w2, hp.wr, hp.bo⟩, ⟨fun a k => ?_, fun a k => ?_, fun q j hq => ?_⟩⟩
  · rw [sum_step]
    exact pay6_val (pay20_val hz0 hz1) hs.s1 a k
  · rw [sum_step (fun r => zK P (X r) a * zK P (X r) k)]
    exact pay7_val (V := fun a k => _) (pay21_val hz0 hz1) hs.s2 a k
  · show VecWindow.put (VecWindow.put s.xs _ _ _) _ _ _ (ix2 q j) = _
    unfold VecWindow.put
    rw [k0_off1_eq, k0_off2_eq, hi]
    by_cases hold : q.val < 2048 * n
    · rw [dif_neg (fun hall => absurd (hall 0).1 (by show ¬ 2048 * n ≤ q.val; omega)),
        dif_neg (fun hall => absurd (hall 0).1 (by show ¬ 2048 * n ≤ q.val; omega))]
      exact hs.xs q j hold
    · have hd : q.val / 2048 = n := by omega
      have hm : 2048 * n + q.val % 2048 = q.val := by omega
      by_cases hj : j.val < 64
      · rw [dif_neg (fun hall => absurd (hall 1).1 (by show ¬ 64 ≤ j.val; omega)), dif_pos (fun a => by
          fin_cases a
          · show 2048 * n ≤ q.val ∧ q.val < 2048 * n + 2048
            omega
          · show 0 ≤ j.val ∧ j.val < 0 + 64
            omega)]
        refine Eq.trans ?_ ((pay16_val ⟨q.val % 2048, by omega⟩ ⟨j.val, hj⟩).trans ((hz0 _ _).trans ?_))
        · refine congrArg _ (funext fun a => Fin.ext ?_)
          fin_cases a
          · show q.val - 2048 * n = q.val % 2048
            omega
          · show j.val - 0 = j.val
            omega
        · unfold xr
          rw [dif_pos hj, hd]
      · rw [dif_pos (fun a => by
          fin_cases a
          · show 2048 * n ≤ q.val ∧ q.val < 2048 * n + 2048
            omega
          · show 64 ≤ j.val ∧ j.val < 64 + 64
            omega)]
        refine Eq.trans ?_ ((pay19_val ⟨q.val % 2048, by omega⟩ ⟨j.val - 64, by omega⟩).trans ((hz1 _ _).trans ?_))
        · refine congrArg _ (funext fun a => Fin.ext ?_)
          fin_cases a
          · show q.val - 2048 * n = q.val % 2048
            omega
          · rfl
        · unfold xr
          rw [dif_neg hj, hd]

/-- The scratch after the first `n + 1` points. -/
theorem Holds.sums (h : Holds m c P X) : ∀ n : ℕ, n < 32 → Prep P (scrAt m c (n + 1)) ∧ Sums P X (n + 1) (scrAt m c (n + 1))
  | 0, _ => by
    have hN : 0 < cfg0.N := Nat.lt_of_lt_of_eq (by omega) N_0.symm
    have e := Hand.scrAt_succ m c ⟨0, hN⟩
    unfold Hand.step at e
    rw [if_pos rfl] at e
    have hb := h.blocks ⟨0, hN⟩
    obtain ⟨hp, hs⟩ := hb.init (X := X) (scrAt m c 0)
    exact e ▸ Blocks.stat (by omega) _ (Hand.coord_val _) hb hp hs
  | n + 1, hn => by
    have hN : n + 1 < cfg0.N := Nat.lt_of_lt_of_eq (by omega) N_0.symm
    have e := Hand.scrAt_succ m c ⟨n + 1, hN⟩
    unfold Hand.step at e
    rw [if_neg (Nat.succ_ne_zero n), if_pos hn] at e
    obtain ⟨hp, hs⟩ := h.sums n (by omega)
    have hb := h.blocks ⟨n + 1, hN⟩
    have hm : min (n + 1) 31 = n + 1 := by omega
    simp only [hm] at hb
    exact e ▸ Blocks.stat hn _ (Hand.coord_val _) hb hp hs

end Cert.Val
-- ==== Proof.Val.Arr.lean ====
/- The kernel's result at real arguments. -/
module

public import proofs.«01_k».proof.Proof.Val.Acc
public import proofs.«01_k».proof.Proof.Ker.Result

@[expose] public section

set_option maxRecDepth 16384

noncomputable section

namespace Cert.Val

open Idealize.ShloMosaic Idealize.ShloMosaic.TcCoe
open Cert.KernelIdeal Cert.KernelIdeal.Gen
open Cert.KernelIdeal.Hand (Blk Scr blkAt scrAt)

/-- The projected features of all rows. -/
def zs (P : Par) (X : ℕ → Fin 768 → ℝ) (r : Fin 131072) : Fin 64 → ℝ := zK P (X r.val)

theorem card_rows : Fintype.card (Fin 131072) = 131072 := Fintype.card_fin _

/-- The affine output's matrix and offsets, from the statistics of all rows. -/
structure Aff (P : Par) (X : ℕ → Fin 768 → ℝ) (s : Scr Ideal) : Prop where
  m2 : ∀ j k, s.m2 (ix2 j k)
    = ((m2r (prj (cvR (zs P X)) P.Wv) (prj (cvR (zs P X)) P.Wm) P.sc j k : ℝ) : EReal)
  c2 : ∀ k l, s.c2 (ix2 k l)
    = ((c2r (fun n => (P.bv n - ∑ j, (∑ r, zs P X r j) / 131072 * prj (cvR (zs P X)) P.Wv j n) * P.sc)
        (fun n => P.bm n - ∑ j, (∑ r, zs P X r j) / 131072 * prj (cvR (zs P X)) P.Wm j n) k : ℝ) : EReal)
  xs : ∀ (q : Fin 65536) (j : Fin 128), s.xs (ix2 q j) = ((xr P X q.val j : ℝ) : EReal)

variable {m : (ℓ : Loc nD τ sig) → Buf (Elt Ideal) ℓ} {c : Dev nD} {P : Par} {X : ℕ → Fin 768 → ℝ}

theorem Blocks.solve {b : Blk Ideal} {s : Scr Ideal} {X0 X1 : Fin 2048 → Fin 768 → ℝ} (h : Blocks P b X0 X1) (hs : Sums P X 32 s) :
    Aff P X (s.solve b) := by
  have h1 : ∀ n, s.row (ix2 0 n) = ((∑ r, zs P X r n : ℝ) : EReal) := fun n => by
    refine Eq.trans ?_ ((hs.s1 0 n).trans (congrArg _ (Finset.sum_range _)))
    show s.s1 _ = s.s1 _
    refine congrArg _ (funext fun a => Fin.ext ?_)
    fin_cases a
    · rfl
    · show 0 + 1 * n.val = n.val
      omega
  have h2 : ∀ i j, s.s2 (ix2 i j) = ((∑ r, zs P X r i * zs P X r j : ℝ) : EReal) := fun i j =>
    (hs.s2 i j).trans (congrArg _ (Finset.sum_range _))
  have ec := cv_eq card_rows (zs P X)
  have ht : 0 < tn (cvK (fun n => ∑ r, zs P X r n) (fun i j => ∑ r, zs P X r i * zs P X r j)) := by
    rw [ec]; exact tn_pos _
  have hv := pay30_val h1 h2 ht h.Wv
  have hm := pay30_val h1 h2 ht h.Wm
  rw [ec] at hv hm
  refine ⟨fun j k => ?_, fun k l => ?_, fun q j => hs.xs q j (by have := q.isLt; omega)⟩
  · exact pay9_val hv hm h.sc j k
  · exact pay10_val (pay22_val h1) h.bv h.bm hv hm h.sc k l

theorem Holds.aff (h : Holds m c P X) : ∀ n : ℕ, n < 32 → Aff P X (scrAt m c (n + 33))
  | 0, _ => by
    have hN : 32 < cfg0.N := Nat.lt_of_lt_of_eq (by omega) N_0.symm
    have e := Hand.scrAt_succ m c ⟨32, hN⟩
    unfold Hand.step at e
    rw [if_neg (by show ¬ 32 = 0; omega), if_neg (by show ¬ 32 < 32; omega), if_pos rfl] at e
    exact e ▸ Blocks.solve (h.blocks ⟨32, hN⟩) (h.sums 31 (by omega)).2
  | n + 1, hn => by
    have hN : n + 33 < cfg0.N := Nat.lt_of_lt_of_eq (by omega) N_0.symm
    have e := Hand.scrAt_succ m c ⟨n + 33, hN⟩
    unfold Hand.step at e
    rw [if_neg (by show ¬ n + 33 = 0; omega), if_neg (by show ¬ n + 33 < 32; omega), if_neg (by show ¬ n + 33 = 32; omega)] at e
    have ih := h.aff n (by omega)
    exact (show scrAt m c (n + 1 + 33) = scrAt m c (n + 33) from e) ▸ ih

/-- An output block's element: the gated output of its row. -/
theorem Aff.out {s : Scr Ideal} (h : Aff P X s) (i : grid0.Coords) (h4 : k0_cond4 i = 1#1) (o : Vec Ideal S64x4096 .f32)
    (n : Fin 64) (l : Fin 4096) (q : Fin 131072) (hq : q.val = 4096 * ((i 0).val - 32) + l.val) :
    s.outOver i h4 o (ix2 n l) = ((outR P (zs P X) q n : ℝ) : EReal) := by
  have hi0 : (i 0).val < 64 := (i 0).isLt
  have hc : ∀ k, s.col (ix2 k 0) = _ := fun k => by
    refine Eq.trans ?_ (h.c2 k 0)
    show s.c2 _ = s.c2 _
    refine congrArg _ (funext fun a => Fin.ext ?_)
    fin_cases a
    · show 0 + 1 * k.val = k.val
      omega
    · rfl
  have hr : ∀ (r : Fin 2048) (j : Fin 128), s.rows i h4 (ix2 r j) = ((xr P X (2048 * ((i 0).val - 32) + r.val) j : ℝ) : EReal) := fun r j => by
    refine Eq.trans ?_ (h.xs ⟨2048 * ((i 0).val - 32) + r.val, by omega⟩ j)
    show s.xs _ = s.xs _
    refine congrArg _ (funext fun a => Fin.ext ?_)
    fin_cases a
    · show k0_off3 i 0 + 1 * r.val = 2048 * ((i 0).val - 32) + r.val
      rw [Hand.off3_eq i h4]
      show 2048 * ((i 0).val - 32) + 1 * r.val = _
      omega
    · show k0_off3 i 1 + 1 * j.val = j.val
      rw [Hand.off3_eq i h4]
      show 0 + 1 * j.val = _
      omega
  have ho := out_eq P card_rows (zs P X) q n
  rw [cv_eq card_rows (zs P X)] at ho
  rw [← ho]
  unfold Scr.outOver VecWindow.put
  by_cases hl : l.val < 2048
  · rw [dif_neg (fun hall => absurd (hall 1).1 (by show ¬ 2048 ≤ l.val; omega)), dif_pos (fun a => by
      fin_cases a
      · show 0 ≤ n.val ∧ n.val < 0 + 64
        omega
      · show 0 ≤ l.val ∧ l.val < 0 + 2048
        omega)]
    refine Eq.trans ?_ ((pay12_val hr h.m2 hc n ⟨l.val, hl⟩).trans ?_)
    · exact congrArg _ (funext fun a => Fin.ext (by fin_cases a <;> rfl))
    · have hz : lo (xr P X (2048 * ((i 0).val - 32) + l.val)) = zs P X q := by
        funext j
        unfold lo xr zs
        rw [dif_pos j.isLt]
        refine congrArg (fun r => zK P (X r) j) ?_
        omega
      rw [yr_0, yr_1, hz]
      rfl
  · rw [dif_pos (fun a => by
      fin_cases a
      · show 0 ≤ n.val ∧ n.val < 0 + 64
        omega
      · show 2048 ≤ l.val ∧ l.val < 2048 + 2048
        omega)]
    refine Eq.trans ?_ ((pay13_val hr h.m2 hc n ⟨l.val - 2048, by omega⟩).trans ?_)
    · exact congrArg _ (funext fun a => Fin.ext (by fin_cases a <;> rfl))
    · have hz : hi (xr P X (2048 * ((i 0).val - 32) + (l.val - 2048))) = zs P X q := by
        funext j
        unfold Val.hi xr zs
        rw [dif_neg (by show ¬ 64 + j.val < 64; omega)]
        have e1 : (⟨64 + j.val - 64, by omega⟩ : Fin 64) = j := Fin.ext (by show 64 + j.val - 64 = j.val; omega)
        show zK P (X _) ⟨64 + j.val - 64, _⟩ = _
        rw [e1]
        refine congrArg (fun r => zK P (X r) j) ?_
        omega
      rw [yr_2, yr_3, hz]
      rfl

theorem Holds.outAt (h : Holds m c P X) (t : Fin cfg0.N) (ht : 32 ≤ t.val) (n : Fin 64) (l : Fin 4096) (q : Fin 131072)
    (hq : q.val = 4096 * (t.val - 32) + l.val) : Hand.outAt m c t (ix2 n l) = ((outR P (zs P X) q n : ℝ) : EReal) := by
  have hN : t.val < 64 := Nat.lt_of_lt_of_eq t.isLt N_0
  have h4 : k0_cond4 (grid0.coords t) = 1#1 := (Hand.cond_out t).mpr ht
  have ha := h.aff (t.val - 32) (by omega)
  rw [show t.val - 32 + 33 = t.val + 1 by omega] at ha
  unfold Hand.outAt
  rw [dif_pos h4]
  exact ha.out _ h4 _ n l q (by rw [Hand.coord_val]; exact hq)

/-- The written array, at each index. -/
theorem Holds.arr (h : Holds m c P X) (y : S64x131072.Idx) :
    ((Hand.dats m 0 c).arrAt 16 cfg0.N : Vec Ideal S64x131072 .f32) y = ((outR P (zs P X) (y 1) (y 0) : ℝ) : EReal) := by
  refine (Hand.dats m 0 c).arrAt_forall_of_cover 16 (fun y v => v = ((outR P (zs P X) (y 1) (y 0) : ℝ) : EReal)) ?_ ?_ y
  · intro t hf y
    have ht := (Hand.flush_out t).mp hf
    have hN : t.val < 64 := Nat.lt_of_lt_of_eq t.isLt N_0
    have hy1 : (y 1).val < 4096 := (y 1).isLt
    have e0 : (((cfg0.win 16).blk t).view.emb y 0 : ℕ) = (y 0).val := by
      blk_simp [idx16]
    have e1 : (((cfg0.win 16).blk t).view.emb y 1 : ℕ) = 4096 * (t.val - 32) + (y 1).val := by
      blk_simp [idx16]
      simp
      omega
    refine Eq.trans ?_ ((h.outAt t ht (y 0) (y 1) ⟨4096 * (t.val - 32) + (y 1).val, by omega⟩ rfl).trans ?_)
    · blk_simp [Hand.after_out]
      exact congrArg _ (eq_ix2 y)
    · exact congrArg _ (congr (congrArg _ (Fin.ext e1.symm)) (Fin.ext e0.symm))
  · intro y
    have hy0 : (y 0).val < 64 := (y 0).isLt
    have hy1 : (y 1).val < 131072 := (y 1).isLt
    have hN : 32 + (y 1).val / 4096 < cfg0.N := Nat.lt_of_lt_of_eq (by omega) N_0.symm
    refine ⟨⟨32 + (y 1).val / 4096, hN⟩, (Hand.flush_out _).mpr (by show 32 ≤ 32 + _; omega), ?_⟩
    mem_blk [idx16]
    simp
    omega

/-- The result, at each index. -/
theorem Holds.result (h : Holds m c P X) (q : Fin 131072) (n : Fin 64) :
    Hand.result m c (ix2 q n) = ((outR P (zs P X) q n : ℝ) : EReal) := by
  have ha := h.arr (ix2 n q)
  unfold Hand.result
  generalize (Hand.dats m 0 c).arrAt 16 cfg0.N = a at ha ⊢
  refine Eq.trans ?_ ha
  pointwise

end Cert.Val
-- ==== Proof.Val.Fin.lean ====
/- Real arguments from the precondition. -/
module

public import proofs.«01_k».proof.Pre_all_finite
public import proofs.«01_k».proof.Proof.Val.Arr
public import Idealize.ShloMosaic.Lib.ReduceAll
public import Idealize.ShloMosaic.Lib.KernelVsHost

@[expose] public section

set_option maxRecDepth 16384

noncomputable section

namespace Cert.Val

open Idealize.ShloMosaic Idealize.ShloMosaic.TcCoe

/-- Every element of the array is a real number. -/
def IsReal {s : Shape} (x : FVec Ideal s .f32) : Prop := ∀ i, x i = (((x i : EReal).toReal : ℝ) : EReal)

/-- An extended real whose magnitude is below the infinity is a real number. -/
theorem real_of_abs_lt (x : Ideal .f32)
    (h : FloatOps.cmpf .olt (FloatOps.hostAbsf x) (FloatOps.ofBits (F := Ideal) .f32 0x7F800000#32) = 1#1) :
    x = (((x : EReal).toReal : ℝ) : EReal) := by
  have ht : Ideal.ofBits .f32 0x7F800000#32 = ⊤ := by simp [Ideal.ofBits, Ideal.ieee]
  have h1 : Ideal.cmp .olt (max (x : EReal) (-(x : EReal))) (Ideal.ofBits .f32 0x7F800000#32) = 1#1 := h
  rw [ht] at h1
  have h2 : max (x : EReal) (-(x : EReal)) < ⊤ := by
    by_contra hn
    simp [Ideal.cmp, hn] at h1
  rw [max_lt_iff] at h2
  refine (EReal.coe_toReal h2.1.ne fun hb => ?_).symm
  have h3 := h2.2
  rw [hb] at h3
  simp at h3

/-- An array all of whose magnitudes compare below the infinity is real. -/
theorem real_of_all {s u t : Shape} {axes : List (Fin s.rank)} [Subsingleton t.Idx] (x : FVec Ideal s .f32) (y : FVec Ideal s .f32)
    (hy : ∀ i, y i = FloatOps.ofBits (F := Ideal) .f32 0x7F800000#32) (init : u.Idx → BitVec 1) (h : s.ReducesTo axes t)
    (hu : 0 < u.numel) (j : t.Idx) (e : Host.reduce IntOp.andi (cmpf .olt (Host.absf x) y) init h hu j = 1#1) : IsReal x := fun i => by
  have h1 : FloatOps.cmpf .olt (FloatOps.hostAbsf (x i)) (y i) = 1#1 := Host.reduce_andi_all _ init h hu j e i
  rw [hy] at h1
  exact real_of_abs_lt _ h1

instance : Subsingleton Cert.Pre_all_finite.S_.Idx := ⟨fun i j => funext fun k => k.elim0⟩

section
open Cert.Pre_all_finite
variable [Cert.Pre_all_finite.Facts]
variable {x0 : FVec Ideal S131072x768 .f32} {x1 : FVec Ideal S256x768 .f32} {x2 : FVec Ideal S256 .f32} {x3 : FVec Ideal S256 .f32} {x4 : FVec Ideal S256 .f32} {x5 : FVec Ideal S64x256 .f32} {x6 : FVec Ideal S64 .f32} {x7 : FVec Ideal S64x768 .f32} {x8 : FVec Ideal S64 .f32} {x9 : FVec Ideal S64x64 .f32} {x10 : FVec Ideal S64x64 .f32} {x11 : FVec Ideal S64 .f32} {x12 : FVec Ideal S64x64 .f32} {x13 : FVec Ideal S64 .f32} {x14 : FVec Ideal S1 .f32}

/-- The precondition says that every argument is real. -/
theorem real_args (e : fn (F := Ideal) x0 x1 x2 x3 x4 x5 x6 x7 x8 x9 x10 x11 x12 x13 x14 = fun _ => 1#1) :
    IsReal x0 ∧ IsReal x1 ∧ IsReal x2 ∧ IsReal x3 ∧ IsReal x4 ∧ IsReal x5 ∧ IsReal x6 ∧ IsReal x7 ∧ IsReal x8 ∧ IsReal x9 ∧ IsReal x10 ∧ IsReal x11 ∧ IsReal x12 ∧ IsReal x13 ∧ IsReal x14 := by
  have e := congrFun e (Shape.Idx.first Facts.h_S_)
  dsimp only [fn, fn_part1, fn_part2, fn_part3, fn_part4] at e
  obtain ⟨e, e14⟩ := IntOp.andi_eq_one.1 e
  obtain ⟨e, e13⟩ := IntOp.andi_eq_one.1 e
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  exact ⟨real_of_all _ _ (fun _ => rfl) _ _ _ _ e, real_of_all _ _ (fun _ => rfl) _ _ _ _ e1, real_of_all _ _ (fun _ => rfl) _ _ _ _ e2, real_of_all _ _ (fun _ => rfl) _ _ _ _ e3, real_of_all _ _ (fun _ => rfl) _ _ _ _ e4, real_of_all _ _ (fun _ => rfl) _ _ _ _ e5, real_of_all _ _ (fun _ => rfl) _ _ _ _ e6, real_of_all _ _ (fun _ => rfl) _ _ _ _ e7, real_of_all _ _ (fun _ => rfl) _ _ _ _ e8, real_of_all _ _ (fun _ => rfl) _ _ _ _ e9, real_of_all _ _ (fun _ => rfl) _ _ _ _ e10, real_of_all _ _ (fun _ => rfl) _ _ _ _ e11, real_of_all _ _ (fun _ => rfl) _ _ _ _ e12, real_of_all _ _ (fun _ => rfl) _ _ _ _ e13, real_of_all _ _ (fun _ => rfl) _ _ _ _ e14⟩

end

/-- The parameters the arrays hold. -/
def parOf (x1 : FVec Ideal Cert.KernelIdeal.S256x768 .f32) (x2 : FVec Ideal Cert.KernelIdeal.S256 .f32) (x3 : FVec Ideal Cert.KernelIdeal.S256 .f32) (x4 : FVec Ideal Cert.KernelIdeal.S256 .f32) (x5 : FVec Ideal Cert.KernelIdeal.S64x256 .f32) (x6 : FVec Ideal Cert.KernelIdeal.S64 .f32) (x7 : FVec Ideal Cert.KernelIdeal.S64x768 .f32) (x8 : FVec Ideal Cert.KernelIdeal.S64 .f32) (x9 : FVec Ideal Cert.KernelIdeal.S64x64 .f32) (x10 : FVec Ideal Cert.KernelIdeal.S64x64 .f32) (x11 : FVec Ideal Cert.KernelIdeal.S64 .f32) (x12 : FVec Ideal Cert.KernelIdeal.S64x64 .f32) (x13 : FVec Ideal Cert.KernelIdeal.S64 .f32) (x14 : FVec Ideal Cert.KernelIdeal.S1 .f32) : Par where
  W1 i j := (x1 (ix2 i j) : EReal).toReal
  b1 i := (x2 (ix1 i) : EReal).toReal
  g i := (x3 (ix1 i) : EReal).toReal
  lb i := (x4 (ix1 i) : EReal).toReal
  W2 i j := (x5 (ix2 i j) : EReal).toReal
  b2 i := (x6 (ix1 i) : EReal).toReal
  Wr i j := (x7 (ix2 i j) : EReal).toReal
  br i := (x8 (ix1 i) : EReal).toReal
  Wo i j := (x9 (ix2 i j) : EReal).toReal
  Wv i j := (x10 (ix2 i j) : EReal).toReal
  bv i := (x11 (ix1 i) : EReal).toReal
  Wm i j := (x12 (ix2 i j) : EReal).toReal
  bm i := (x13 (ix1 i) : EReal).toReal
  sc := (x14 (ix1 0) : EReal).toReal

/-- The rows the first array holds. -/
def rowsOf (x0 : FVec Ideal Cert.KernelIdeal.S131072x768 .f32) (q : ℕ) (j : Fin 768) : ℝ :=
  if h : q < 131072 then (x0 (ix2 ⟨q, h⟩ j) : EReal).toReal else 0

open Cert.KernelIdeal in
/-- Under the precondition the launched arrays hold real parameters and rows. -/
theorem holds_of [Cert.Pre_all_finite.Facts] (m : (ℓ : Loc nD τ sig) → Buf (Elt Ideal) ℓ) (c : Dev nD)
    (e : Cert.Pre_all_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) = fun _ => 1#1) :
    Holds m c (parOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) (rowsOf (m ((c : Thread nD τ).loc main_arg0))) := by
  obtain ⟨r0, r1, r2, r3, r4, r5, r6, r7, r8, r9, r10, r11, r12, r13, r14⟩ := real_args e
  exact {
    x := fun q j => (r0 (ix2 q j)).trans (congrArg Real.toEReal (by rw [rowsOf, dif_pos q.isLt]))
    W1 := fun i j => r1 (ix2 i j)
    b1 := fun i => r2 (ix1 i)
    g := fun i => r3 (ix1 i)
    lb := fun i => r4 (ix1 i)
    W2 := fun i j => r5 (ix2 i j)
    b2 := fun i => r6 (ix1 i)
    Wr := fun i j => r7 (ix2 i j)
    br := fun i => r8 (ix1 i)
    Wo := fun i j => r9 (ix2 i j)
    Wv := fun i j => r10 (ix2 i j)
    bv := fun i => r11 (ix1 i)
    Wm := fun i j => r12 (ix2 i j)
    bm := fun i => r13 (ix1 i)
    sc := fun i => by obtain rfl : i = 0 := Subsingleton.elim _ _; exact r14 (ix1 0) }

end Cert.Val

end
-- ==== Proof.Val.Ref.lean ====
/- The reference's stages at real arguments: the hidden activations and the projected features. -/
module

public import proofs.«01_k».proof.Proof.Val.Spec
public import proofs.«01_k».proof.Proof.Gen.ReferenceIdeal.Read

@[expose] public section

set_option maxRecDepth 16384

noncomputable section

namespace Cert.Val

open Idealize.ShloMosaic Idealize.ShloMosaic.TcCoe
open Cert.ReferenceIdeal Cert.ReferenceIdeal.Gen Cert.ReferenceIdeal.Read

theorem nz256 : (256 : ℝ) ≠ 0 := by norm_num

/-- The integer zero as a number. -/
theorem sito0 : (FloatOps.sitofp FTy.f32 0#32 : Ideal .f32) = ((0 : ℝ) : EReal) := by
  show (((0#32 : BitVec 32).toInt : ℝ) : EReal) = _
  simp

section
variable {P : Par} {X : Fin 131072 → Fin 768 → ℝ}
variable {x0 : Vec Ideal S131072x768 .f32} {x1 : Vec Ideal S256x768 .f32} {x2 x3 x4 : Vec Ideal S256 .f32}
variable (h0 : ∀ r j, x0 (ix2 r j) = ((X r j : ℝ) : EReal)) (h1 : ∀ i j, x1 (ix2 i j) = ((P.W1 i j : ℝ) : EReal))
  (h2 : ∀ i, x2 (ix1 i) = ((P.b1 i : ℝ) : EReal)) (h3 : ∀ i, x3 (ix1 i) = ((P.g i : ℝ) : EReal)) (h4 : ∀ i, x4 (ix1 i) = ((P.lb i : ℝ) : EReal))
include h0 h1 h2

/-- The first map. -/
theorem ref4 (r : Fin 131072) (k : Fin 256) : val_main_v4 x0 x1 x2 (ix2 r k) = ((pre P (X r) k : ℝ) : EReal) := by
  pointwise [val_main_v4, val_main_v1, val_main_v0, val_main_v3, val_main_v2, dot_S131072x768_S768x256_S131072x256_1_0_0_1_n_n, h0, h1, h2]
  simp only [← EReal.coe_mul, ← EReal.coe_add, coe_sum]
  rfl

/-- The average of a row. -/
theorem ref8 (r : Fin 131072) : val_main_v8 x0 x1 x2 (ix2 r 0) = ((avg (pre P (X r)) : ℝ) : EReal) := by
  have h := ref4 h0 h1 h2
  pointwise [val_main_v8, val_main_v7, val_main_v6, val_main_v5, val_main_cst, val_main_cst_0, h]
  simp only [l256, l0, ← EReal.coe_mul, ← EReal.coe_add, coe_sum, div_coe nz256, zero_add]
  rfl

theorem refc3 (r : Fin 131072) : val_main_call0_v3 x0 x1 x2 (ix2 r 0) = ((avg (pre P (X r)) : ℝ) : EReal) := by
  have h := ref4 h0 h1 h2
  pointwise [val_main_call0_v3, val_main_call0_v2, val_main_call0_v1, val_main_call0_v0, val_main_call0_cst, val_main_call0_cst_0, h]
  simp only [l256, l0, ← EReal.coe_mul, ← EReal.coe_add, coe_sum, div_coe nz256, zero_add]
  rfl

/-- The variance of a row. -/
theorem refc12 (r : Fin 131072) : val_main_call0_v12 x0 x1 x2 (ix2 r 0) = ((vr (pre P (X r)) : ℝ) : EReal) := by
  have h := ref4 h0 h1 h2
  have h' := refc3 h0 h1 h2
  pointwise [val_main_call0_v12, val_main_call0_v11, val_main_call0_v10, val_main_call0_v9, val_main_call0_v8, val_main_call0_v7, val_main_call0_v6,
    val_main_call0_v5, val_main_call0_v4, val_main_c, val_main_call0_cst_1, val_main_call0_cst_2, h, h']
  rw [show (FloatOps.sitofp FTy.f32 0#32 : Ideal .f32) = ((0 : ℝ) : EReal) from sito0]
  simp only [l256, ← EReal.coe_mul, ← EReal.coe_add, ← EReal.coe_sub, coe_sum, sub_zero, div_coe nz256]
  rfl

theorem ref9 (r : Fin 131072) : val_main_v9 x0 x1 x2 (ix2 r 0) = ((vr (pre P (X r)) : ℝ) : EReal) := by
  have h := refc12 h0 h1 h2
  pointwise [val_main_v9, val_main_call0_v13, val_main_call0_v8, val_main_call0_v7, val_main_c, val_main_call0_cst_1, val_main_call0_cst_3, h]
  rw [show (FloatOps.sitofp FTy.f32 0#32 : Ideal .f32) = ((0 : ℝ) : EReal) from sito0, l256, ← EReal.coe_sub, if_pos]
  exact EReal.coe_pos.2 (by norm_num)

/-- The normalised row. -/
theorem ref16 (r : Fin 131072) (k : Fin 256) : val_main_v16 x0 x1 x2 (ix2 r k) = ((nrm (pre P (X r)) k : ℝ) : EReal) := by
  have h := ref4 h0 h1 h2
  have h' := ref8 h0 h1 h2
  have h'' := ref9 h0 h1 h2
  pointwise [val_main_v16, val_main_v15, val_main_v14, val_main_v13, val_main_v12, val_main_v11, val_main_v10, val_main_cst_1, h, h', h'']
  rw [le5, ← EReal.coe_add, sqrt_coe (vr_pos _).le, ← EReal.coe_sub, div_coe (Real.sqrt_pos.2 (vr_pos _)).ne']
  rw [div_eq_mul_inv]
  rfl

include h3 h4
theorem ref29 (r : Fin 131072) (k : Fin 256) : val_main_v29 x0 x1 x2 x3 x4 (ix2 r k) = ((hid P (X r) k : ℝ) : EReal) := by
  have h := ref16 h0 h1 h2
  pointwise [val_main_v29, val_main_v28, val_main_v27, val_main_v26, val_main_v25, val_main_v24, val_main_v23, val_main_v22, val_main_v21, val_main_v20,
    val_main_v19, val_main_v18, val_main_v17, val_main_cst_2, val_main_cst_3, h, h3, h4]
  rw [neg_mul, Ideal.erfc_neg, l05, lcg, ← EReal.coe_one]
  simp only [← EReal.coe_mul, ← EReal.coe_add, erf_coe]
  rfl

variable {x5 : Vec Ideal S64x256 .f32} {x6 : Vec Ideal S64 .f32} {x7 : Vec Ideal S64x768 .f32} {x8 : Vec Ideal S64 .f32} {x9 : Vec Ideal S64x64 .f32}
variable (h5 : ∀ i j, x5 (ix2 i j) = ((P.W2 i j : ℝ) : EReal)) (h6 : ∀ i, x6 (ix1 i) = ((P.b2 i : ℝ) : EReal))
  (h7 : ∀ i j, x7 (ix2 i j) = ((P.Wr i j : ℝ) : EReal)) (h8 : ∀ i, x8 (ix1 i) = ((P.br i : ℝ) : EReal))
  (h9 : ∀ i j, x9 (ix2 i j) = ((P.Wo i j : ℝ) : EReal))
include h5 h6 h7 h8 h9

/-- The projected features. -/
theorem ref42 (r : Fin 131072) (n : Fin 64) :
    val_main_v42 x0 x1 x2 x3 x4 x5 x6 x7 x8 x9 (ix2 r n) = ((zR P (X r) n : ℝ) : EReal) := by
  have h := ref29 h0 h1 h2 h3 h4
  pointwise [val_main_v42, val_main_v41, val_main_v40, val_main_v39, val_main_v38, val_main_v37, val_main_v36, val_main_v35, val_main_v34,
    val_main_v33, val_main_v32, val_main_v31, val_main_v30, dot_S131072x256_S256x64_S131072x64_1_0_0_1_n_n,
    dot_S131072x768_S768x64_S131072x64_1_0_0_1_n_n, dot_S131072x64_S64x64_S131072x64_1_0_0_1_n_n, h, h0, h5, h6, h7, h8, h9]
  simp only [← EReal.coe_mul, ← EReal.coe_add, coe_sum]
  rfl

end

end Cert.Val
-- ==== Proof.Val.RefOut.lean ====
/- The reference's later stages at real features: the whitening and the gated output. -/
module

public import proofs.«01_k».proof.Proof.Val.Spec
public import proofs.«01_k».proof.Proof.Gen.ReferenceIdeal.Read

@[expose] public section

set_option maxRecDepth 16384

noncomputable section

namespace Cert.Val

open Idealize.ShloMosaic Idealize.ShloMosaic.TcCoe
open Cert.ReferenceIdeal Cert.ReferenceIdeal.Gen Cert.ReferenceIdeal.Read

theorem nzN : (131072 : ℝ) ≠ 0 := by norm_num
theorem nzN1 : (131071 : ℝ) ≠ 0 := by norm_num

/-- Two coordinates compared as words. -/
theorem word_if (i j : Fin 64) : (BitVec.ofNat 32 i.val = BitVec.ofNat 32 j.val) ↔ i = j := by
  constructor
  · intro h
    have h' := congrArg BitVec.toNat h
    simp only [BitVec.toNat_ofNat] at h'
    rw [Nat.mod_eq_of_lt (by omega), Nat.mod_eq_of_lt (by omega)] at h'
    exact Fin.ext h'
  · rintro rfl; rfl

/-- The comparison of two coordinates as words, the first with zero added. -/
theorem word_cmp01 (i j : Fin 64) :
    IntOp.cmpi .eq (IntOp.addi (BitVec.ofNat 32 i.val) 0#32) (BitVec.ofNat 32 j.val) = if i = j then 1#1 else 0#1 := by
  rw [show IntOp.addi (BitVec.ofNat 32 i.val) 0#32 = BitVec.ofNat 32 i.val from BitVec.add_zero _]
  by_cases h : i = j
  · rw [if_pos h, h]
    exact IntOp.cmpi_eq.2 rfl
  · have hne : ¬ BitVec.ofNat 32 i.val = BitVec.ofNat 32 j.val := fun e => h ((word_if i j).1 e)
    rw [if_neg h]
    show BitVec.ofBool (BitVec.ofNat 32 i.val == BitVec.ofNat 32 j.val) = 0#1
    rw [beq_eq_false_iff_ne.2 hne]
    rfl

/-- The unit matrix. -/
theorem ref72 (i j : Fin 64) : val_main_v72 (F := Ideal) (ix2 i j) = ((dl i j : ℝ) : EReal) := by
  pointwise [val_main_v72, val_main_v71, val_main_v70, val_main_v69, val_main_v68, val_main_v67, val_main_c_11]
  rw [word_cmp01]
  unfold dl
  split_ifs
  · show (((1#1 : BitVec 1).toNat : ℝ) : EReal) = _
    simp
  · show (((0#1 : BitVec 1).toNat : ℝ) : EReal) = _
    simp

section
variable {Z : Fin 131072 → Fin 64 → ℝ}
variable {x0 : Vec Ideal S131072x768 .f32} {x1 : Vec Ideal S256x768 .f32} {x2 x3 x4 : Vec Ideal S256 .f32}
  {x5 : Vec Ideal S64x256 .f32} {x6 : Vec Ideal S64 .f32} {x7 : Vec Ideal S64x768 .f32} {x8 : Vec Ideal S64 .f32} {x9 : Vec Ideal S64x64 .f32}
variable (hz : ∀ r n, val_main_v42 x0 x1 x2 x3 x4 x5 x6 x7 x8 x9 (ix2 r n) = ((Z r n : ℝ) : EReal))
include hz

/-- The centred features. -/
theorem ref48 (r : Fin 131072) (n : Fin 64) :
    val_main_v48 x0 x1 x2 x3 x4 x5 x6 x7 x8 x9 (ix2 r n) = ((Z r n - mu Z n : ℝ) : EReal) := by
  pointwise [val_main_v48, val_main_v47, val_main_v46, val_main_v45, val_main_v44, val_main_v43, val_main_cst_4, val_main_cst_5, hz]
  simp only [lN, coe_sum, div_coe nzN, ← EReal.coe_sub]
  rfl

/-- The covariance. -/
theorem ref61 (i j : Fin 64) : val_main_v61 x0 x1 x2 x3 x4 x5 x6 x7 x8 x9 (ix2 i j) = ((cvR Z i j : ℝ) : EReal) := by
  have h := ref48 hz
  have e : val_main_v58 (F := Ideal) = val_main_v72 := rfl
  have h' := ref72
  rw [← e] at h'
  pointwise [val_main_v61, val_main_v60, val_main_v59, val_main_v52, val_main_v51, val_main_v50, val_main_v49, val_main_cst_6, val_main_cst_8,
    dot_S64x131072_S131072x64_S64x64_1_0_0_1_n_n, h, h']
  simp only [lN1, le3, coe_sum, div_coe nzN1, ← EReal.coe_mul, ← EReal.coe_add, ← EReal.coe_sub]
  rfl

/-- The scale. -/
theorem ref64 (y : S_.Idx) : val_main_v64 x0 x1 x2 x3 x4 x5 x6 x7 x8 x9 y = ((tn (cvR Z) : ℝ) : EReal) := by
  have h := ref61 hz
  pointwise [val_main_v64, val_main_v63, val_main_v62, val_main_call1_v6, val_main_call1_v5, val_main_call1_v4, val_main_call1_v3, val_main_call1_v2,
    val_main_call1_v1, val_main_call1_v0, val_main_call1_c, val_main_call1_cst, val_main_call1_cst_0, val_main_cst_9, val_main_cst_10, h]
  have hd : ∀ a b : Fin 64, Scalar.select (IntOp.cmpi .eq (IntOp.addi (BitVec.ofNat 32 a.val) 0#32) (BitVec.ofNat 32 b.val))
      ((cvR Z a b : ℝ) : EReal) 0 = ((if a = b then cvR Z a b else 0 : ℝ) : EReal) := fun a b => by
    rw [word_cmp01]
    split_ifs <;> rfl
  simp only [hd, coe_sum, l15, le6, ← EReal.coe_mul, ← EReal.coe_add, Finset.sum_ite_eq, Finset.mem_univ, if_true]
  rfl

/-- The covariance over its scale. -/
theorem ref66 (i j : Fin 64) : val_main_v66 x0 x1 x2 x3 x4 x5 x6 x7 x8 x9 (ix2 i j) = ((sn (cvR Z) i j : ℝ) : EReal) := by
  have h := ref61 hz
  have h' := ref64 hz
  pointwise [val_main_v66, val_main_v65, h, h']
  rw [div_coe (tn_pos Z).ne']
  rfl
end

/-- One iteration towards the inverse root. -/
def hns (e ss w : FVec Ideal S64x64 .f32) : FVec Ideal S64x64 .f32 :=
  Host.dotGeneral dot_S64x64_S64x64_S64x64_1_0_0_1_n_n none
    (subf (mulf (broadcastInDim S64x64 ![] bcast_S_S64x64 (constant S_ .f32 0x3FC00000#32)) e)
      (mulf (broadcastInDim S64x64 ![] bcast_S_S64x64 (constant S_ .f32 0x3F000000#32))
        (Host.dotGeneral dot_S64x64_S64x64_S64x64_1_0_0_1_n_n none (Host.dotGeneral dot_S64x64_S64x64_S64x64_1_0_0_1_n_n none w ss)
          (transpose S64x64 [1, 0] w transposes_S64x64_S64x64_1_0)))) w

theorem hns_val {e ss w : FVec Ideal S64x64 .f32} {S W : Mat} (he : ∀ i j, e (ix2 i j) = ((dl i j : ℝ) : EReal))
    (hs : ∀ i j, ss (ix2 i j) = ((S i j : ℝ) : EReal)) (hw : ∀ i j, w (ix2 i j) = ((W i j : ℝ) : EReal)) (i j : Fin 64) :
    hns e ss w (ix2 i j) = ((ns S W i j : ℝ) : EReal) := by
  pointwise [hns, dot_S64x64_S64x64_S64x64_1_0_0_1_n_n, he, hs, hw]
  simp only [l15, l05, ← EReal.coe_mul, ← EReal.coe_add, ← EReal.coe_sub, coe_sum]
  rfl

section
variable {Z : Fin 131072 → Fin 64 → ℝ} {P : Par}
variable {x0 : Vec Ideal S131072x768 .f32} {x1 : Vec Ideal S256x768 .f32} {x2 x3 x4 : Vec Ideal S256 .f32}
  {x5 : Vec Ideal S64x256 .f32} {x6 : Vec Ideal S64 .f32} {x7 : Vec Ideal S64x768 .f32} {x8 : Vec Ideal S64 .f32} {x9 x10 x12 : Vec Ideal S64x64 .f32}
  {x11 x13 : Vec Ideal S64 .f32} {x14 : Vec Ideal S1 .f32}
variable (hz : ∀ r n, val_main_v42 x0 x1 x2 x3 x4 x5 x6 x7 x8 x9 (ix2 r n) = ((Z r n : ℝ) : EReal))
include hz

/-- The five iterations. -/
theorem ref117 (i j : Fin 64) : val_main_v117 x0 x1 x2 x3 x4 x5 x6 x7 x8 x9 (ix2 i j) = ((w5 (cvR Z) i j : ℝ) : EReal) := by
  have st := fun (w : FVec Ideal S64x64 .f32) (W : Mat) (hw : ∀ i j, w (ix2 i j) = ((W i j : ℝ) : EReal)) => hns_val ref72 (ref66 hz) hw
  exact st _ _ (st _ _ (st _ _ (st _ _ (st _ _ ref72)))) i j

/-- The whitened features. -/
theorem ref122 (r : Fin 131072) (k : Fin 64) : val_main_v122 x0 x1 x2 x3 x4 x5 x6 x7 x8 x9 (ix2 r k) = ((xw Z r k : ℝ) : EReal) := by
  have h := ref117 hz
  have h' := ref64 hz
  have h'' := ref48 hz
  pointwise [val_main_v122, val_main_v121, val_main_v120, val_main_v119, val_main_v118, dot_S131072x64_S64x64_S131072x64_1_0_0_1_n_n, h, h', h'']
  simp only [sqrt_coe (tn_pos Z).le, div_coe (Real.sqrt_pos.2 (tn_pos Z)).ne', ← EReal.coe_mul, coe_sum]
  rfl

variable (h10 : ∀ i j, x10 (ix2 i j) = ((P.Wv i j : ℝ) : EReal)) (h11 : ∀ i, x11 (ix1 i) = ((P.bv i : ℝ) : EReal))
  (h12 : ∀ i j, x12 (ix2 i j) = ((P.Wm i j : ℝ) : EReal)) (h13 : ∀ i, x13 (ix1 i) = ((P.bm i : ℝ) : EReal))
  (h14 : ∀ i, x14 (ix1 i) = ((P.sc : ℝ) : EReal))
include h10 h11 h12 h13 h14

/-- The gated output. -/
theorem ref142 (r : Fin 131072) (n : Fin 64) :
    val_main_v142 x0 x1 x2 x3 x4 x5 x6 x7 x8 x9 x10 x11 x12 x13 x14 (ix2 r n) = ((outR P Z r n : ℝ) : EReal) := by
  have h := ref122 hz
  pointwise [val_main_v142, val_main_v141, val_main_v140, val_main_v139, val_main_v138, val_main_v137, val_main_v136, val_main_v135, val_main_v134,
    val_main_v133, val_main_v132, val_main_v131, val_main_v130, val_main_v129, val_main_v128, val_main_v127, val_main_v126, val_main_v125,
    val_main_v124, val_main_v123, val_main_cst_22, val_main_cst_23, dot_S131072x64_S64x64_S131072x64_1_0_0_1_n_n, h, h10, h11, h12, h13, h14]
  have hp : ∀ x : ℝ, (1 + Real.exp x) ≠ 0 := fun x => (by positivity : (0 : ℝ) < 1 + Real.exp x).ne'
  simp only [← EReal.coe_mul, ← EReal.coe_add, coe_sum, ← EReal.coe_neg, Ideal.exp_coe, ← EReal.coe_one, div_coe (hp _)]
  rfl
end

end Cert.Val
-- ==== Proof.Val.Eq.lean ====
/- The kernel's result is the reference's. -/
module

public import proofs.«01_k».proof.Proof.Val.Arr
public import proofs.«01_k».proof.Proof.Val.Ref
public import proofs.«01_k».proof.Proof.Val.RefOut

@[expose] public section

set_option maxRecDepth 16384

noncomputable section

namespace Cert.Val

open Idealize.ShloMosaic Idealize.ShloMosaic.TcCoe
open Cert.KernelIdeal Cert.KernelIdeal.Gen
open Cert.ReferenceIdeal.Read (val_main_v142)

/-- At real arguments the reference's array is the array the kernel leaves. -/
theorem Holds.result_eq {m : (ℓ : Loc nD τ sig) → Buf (Elt Ideal) ℓ} {c : Dev nD} {P : Par} {X : ℕ → Fin 768 → ℝ} (h : Holds m c P X)
    {y0 : Vec Ideal S131072x768 .f32} {y1 : Vec Ideal S256x768 .f32} {y2 : Vec Ideal S256 .f32} {y3 : Vec Ideal S256 .f32} {y4 : Vec Ideal S256 .f32} {y5 : Vec Ideal S64x256 .f32} {y6 : Vec Ideal S64 .f32} {y7 : Vec Ideal S64x768 .f32} {y8 : Vec Ideal S64 .f32} {y9 : Vec Ideal S64x64 .f32} {y10 : Vec Ideal S64x64 .f32} {y11 : Vec Ideal S64 .f32} {y12 : Vec Ideal S64x64 .f32} {y13 : Vec Ideal S64 .f32} {y14 : Vec Ideal S1 .f32}
    (e0 : y0 = m ((c : Thread nD τ).loc main_arg0)) (e1 : y1 = m ((c : Thread nD τ).loc main_arg1)) (e2 : y2 = m ((c : Thread nD τ).loc main_arg2)) (e3 : y3 = m ((c : Thread nD τ).loc main_arg3)) (e4 : y4 = m ((c : Thread nD τ).loc main_arg4)) (e5 : y5 = m ((c : Thread nD τ).loc main_arg5)) (e6 : y6 = m ((c : Thread nD τ).loc main_arg6)) (e7 : y7 = m ((c : Thread nD τ).loc main_arg7)) (e8 : y8 = m ((c : Thread nD τ).loc main_arg8)) (e9 : y9 = m ((c : Thread nD τ).loc main_arg9)) (e10 : y10 = m ((c : Thread nD τ).loc main_arg10)) (e11 : y11 = m ((c : Thread nD τ).loc main_arg11)) (e12 : y12 = m ((c : Thread nD τ).loc main_arg12)) (e13 : y13 = m ((c : Thread nD τ).loc main_arg13)) (e14 : y14 = m ((c : Thread nD τ).loc main_arg14)) :
    val_main_v142 (F := Ideal) y0 y1 y2 y3 y4 y5 y6 y7 y8 y9 y10 y11 y12 y13 y14 = (Hand.result m c : Vec Ideal S131072x64 .f32) := by
  subst e0 e1 e2 e3 e4 e5 e6 e7 e8 e9 e10 e11 e12 e13 e14
  have hz := fun r n => (ref42 (X := fun r => X r.val) h.x h.W1 h.b1 h.g h.lb h.W2 h.b2 h.Wr h.br h.Wo r n).trans
    (congrArg Real.toEReal (zK_eq P (X r.val) n).symm)
  refine funext fun i => ?_
  obtain ⟨q, n, rfl⟩ : ∃ (q : Fin 131072) (n : Fin 64), i = ix2 q n := ⟨_, _, eq_ix2 i⟩
  exact (ref142 (P := P) (Z := zs P X) hz h.Wv h.bv h.Wm h.bm h.sc q n).trans (h.result q n).symm

end Cert.Val

end
-- ==== Proof.lean ====
module

public import proofs.«01_k».proof.Defs
public import proofs.«01_k».proof.Proof.Gen.ReferenceIdeal.Read
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_all_finite
public import proofs.«01_k».proof.Proof.Ker.Same
public import proofs.«01_k».proof.Proof.Val.Fin
public import proofs.«01_k».proof.Proof.Val.Eq
public import Idealize.ShloMosaic.Adequacy
public import Idealize.ShloMosaic.Init
public import Idealize.ShloMosaic.Lib.Quiescent

@[expose] public section

noncomputable section

namespace Cert.Proof

open Idealize.ShloMosaic Idealize.SL.Sem

/-- The reference leaves its arguments as they were; it has no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl _⟩)
    (Cert.ReferenceIdeal.Value.run m g)

/-- At finite arguments the kernel and the reference end with the same array. -/
theorem values : Cert.algebraic_KernelIdeal_ReferenceIdeal_pre_all_finite (hKernelIdeal := Cert.KernelIdeal.Gen.facts)
    (hReferenceIdeal := Cert.ReferenceIdeal.Gen.facts) (hPre_all_finite := Cert.Pre_all_finite.Gen.facts) := by
  intro m g m' g' hp ha
  refine ⟨fun c => Cert.KernelIdeal.Hand.result m c, Cert.KernelIdeal.Hand.run_result m g,
    (θ_run Cert.ReferenceIdeal.defs _ _).mono (fun r h c => ⟨(h c).1.trans ?_, (h c).2⟩) (Cert.ReferenceIdeal.Value.run m' g')⟩
  refine (Cert.ReferenceIdeal.Read.val_main_v142_eq (F := Ideal) (StableHlo.launchContents m' c)).trans ?_
  obtain ⟨a0, a1, a2, a3, a4, a5, a6, a7, a8, a9, a10, a11, a12, a13, a14⟩ := ha c
  exact (Cert.Val.holds_of m c (hp c)).result_eq a0 a1 a2 a3 a4 a5 a6 a7 a8 a9 a10 a11 a12 a13 a14

theorem claim : Cert.Claim := ⟨Cert.Kernel.Gen.facts, Cert.KernelIdeal.Gen.facts, Cert.ReferenceIdeal.Gen.facts,
  Cert.Pre_all_finite.Gen.facts,
  frame_kernel,
  fun m g _ => Cert.KernelIdeal.Hand.frame_ideal m g,
  fun m g _ => Cert.KernelIdeal.Hand.frame_ideal m g,
  frame_reference,
  fun m g _ => frame_reference m g trivial,
  trivial,
  values⟩

end Cert.Proof

end
